-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1024 : Shape := ⟨1, ![1024]⟩
abbrev S256x1024 : Shape := ⟨2, ![256, 1024]⟩
abbrev S8 : Shape := ⟨1, ![8]⟩
abbrev S4 : Shape := ⟨1, ![4]⟩
abbrev S_ : Shape := ⟨0, ![]⟩
abbrev S1 : Shape := ⟨1, ![1]⟩
abbrev S32x1024 : Shape := ⟨2, ![32, 1024]⟩
abbrev S1x32x1024 : Shape := ⟨3, ![1, 32, 1024]⟩
abbrev S32 : Shape := ⟨1, ![32]⟩
abbrev S32x1 : Shape := ⟨2, ![32, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024, .f32⟩
  | .local _ .vmem, ⟨3, _⟩ => ⟨S1024x1024, .f32⟩
  | .local _ .vmem, ⟨4, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v21 : BitVec 32 := Scalar.muli v9 c4_i32_12
  let v22 : BitVec 32 := Scalar.addi c0_i32 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v23 : BitVec 32 := Scalar.muli v5 c2_i32_13
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v25 : BitVec 32 := Scalar.muli v8 c1_i32_14
  let v26 : BitVec 32 := Scalar.addi v24 v25
  v26.toNat
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v27 : BitVec 32 := Scalar.muli v2 c4_i32_16
  let v28 : BitVec 32 := Scalar.addi c0_i32_17 v27
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_18 : BitVec 32 := 2#32
  let v29 : BitVec 32 := Scalar.muli v10 c2_i32_18
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v31 : BitVec 32 := Scalar.muli v8 c1_i32_19
  let v32 : BitVec 32 := Scalar.addi v30 v31
  v32.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v33 : BitVec 32 := Scalar.muli v2 c4_i32_21
  let v34 : BitVec 32 := Scalar.addi c0_i32_22 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v35 : BitVec 32 := Scalar.muli v5 c2_i32_23
  let v36 : BitVec 32 := Scalar.addi v34 v35
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_24 : BitVec 32 := 1#32
  let v37 : BitVec 32 := Scalar.muli v11 c1_i32_24
  let v38 : BitVec 32 := Scalar.addi v36 v37
  v38.toNat
def k0_off1 (d0 : Dev nD) (c0_i32_25 : BitVec 32) : Fin 3 → Nat :=
  let c0_i32_26 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32 : BitVec 32 := 256#32
  let v39 : BitVec 32 := Scalar.muli v13 c256_i32
  let v40 : BitVec 32 := Scalar.addi v39 c0_i32_25
  let c0_i32_35 : BitVec 32 := 0#32
  ![0, v40.toNat, 0]
def k0_dev4 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v41 : BitVec 32 := Scalar.muli v9 c4_i32_29
  let v42 : BitVec 32 := Scalar.addi c0_i32_30 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v43 : BitVec 32 := Scalar.muli v5 c2_i32_31
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v45 : BitVec 32 := Scalar.muli v8 c1_i32_32
  let v46 : BitVec 32 := Scalar.addi v44 v45
  v46.toNat
def k0_dev5 (d0 : Dev nD) : Nat :=
  let c0_i32_41 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_40 : BitVec 32 := 4#32
  let v56 : BitVec 32 := Scalar.muli v9 c4_i32_40
  let v57 : BitVec 32 := Scalar.addi c0_i32_41 v56
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v58 : BitVec 32 := Scalar.muli v5 c2_i32_42
  let v59 : BitVec 32 := Scalar.addi v57 v58
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v60 : BitVec 32 := Scalar.muli v8 c1_i32_43
  let v61 : BitVec 32 := Scalar.addi v59 v60
  v61.toNat
def k0_dev6 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v71 : BitVec 32 := Scalar.muli v9 c4_i32_51
  let v72 : BitVec 32 := Scalar.addi c0_i32_52 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v73 : BitVec 32 := Scalar.muli v5 c2_i32_53
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v75 : BitVec 32 := Scalar.muli v8 c1_i32_54
  let v76 : BitVec 32 := Scalar.addi v74 v75
  v76.toNat
def k0_dev7 (d0 : Dev nD) : Nat :=
  let c0_i32_63 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_62 : BitVec 32 := 4#32
  let v86 : BitVec 32 := Scalar.muli v9 c4_i32_62
  let v87 : BitVec 32 := Scalar.addi c0_i32_63 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_64 : BitVec 32 := 2#32
  let v88 : BitVec 32 := Scalar.muli v5 c2_i32_64
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v90 : BitVec 32 := Scalar.muli v8 c1_i32_65
  let v91 : BitVec 32 := Scalar.addi v89 v90
  v91.toNat
def k0_dev8 (d0 : Dev nD) : Nat :=
  let c0_i32_74 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_73 : BitVec 32 := 4#32
  let v101 : BitVec 32 := Scalar.muli v9 c4_i32_73
  let v102 : BitVec 32 := Scalar.addi c0_i32_74 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v103 : BitVec 32 := Scalar.muli v5 c2_i32_75
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v105 : BitVec 32 := Scalar.muli v8 c1_i32_76
  let v106 : BitVec 32 := Scalar.addi v104 v105
  v106.toNat
def k0_dev9 (d0 : Dev nD) : Nat :=
  let c0_i32_84 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_83 : BitVec 32 := 4#32
  let v116 : BitVec 32 := Scalar.muli v9 c4_i32_83
  let v117 : BitVec 32 := Scalar.addi c0_i32_84 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_85 : BitVec 32 := 2#32
  let v118 : BitVec 32 := Scalar.muli v5 c2_i32_85
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v120 : BitVec 32 := Scalar.muli v8 c1_i32_86
  let v121 : BitVec 32 := Scalar.addi v119 v120
  v121.toNat
def k0_dev10 (d0 : Dev nD) : Nat :=
  let c0_i32_94 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_93 : BitVec 32 := 4#32
  let v131 : BitVec 32 := Scalar.muli v9 c4_i32_93
  let v132 : BitVec 32 := Scalar.addi c0_i32_94 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v133 : BitVec 32 := Scalar.muli v5 c2_i32_95
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v135 : BitVec 32 := Scalar.muli v8 c1_i32_96
  let v136 : BitVec 32 := Scalar.addi v134 v135
  v136.toNat
def k0_dev11 (d0 : Dev nD) : Nat :=
  let c0_i32_104 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_103 : BitVec 32 := 4#32
  let v146 : BitVec 32 := Scalar.muli v9 c4_i32_103
  let v147 : BitVec 32 := Scalar.addi c0_i32_104 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v148 : BitVec 32 := Scalar.muli v5 c2_i32_105
  let v149 : BitVec 32 := Scalar.addi v147 v148
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v150 : BitVec 32 := Scalar.muli v8 c1_i32_106
  let v151 : BitVec 32 := Scalar.addi v149 v150
  v151.toNat
def k0_off2 (d0 : Dev nD) (c0_i32_121 : BitVec 32) : Fin 3 → Nat :=
  let c0 : Index := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_120 : BitVec 32 := 256#32
  let v170 : BitVec 32 := Scalar.muli v13 c256_i32_120
  let v171 : BitVec 32 := Scalar.addi v170 c0_i32_121
  let v172 : Index := Scalar.indexCast v171
  let c0_122 : Index := 0#32
  ![0, v172.toNat, 0]
def k0_off3 (d0 : Dev nD) (c0_i32_126 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_125 : BitVec 32 := 256#32
  let v177 : BitVec 32 := Scalar.muli v13 c256_i32_125
  let v178 : BitVec 32 := Scalar.addi v177 c0_i32_126
  let v179 : Index := Scalar.indexCast v178
  let c0_127 : Index := 0#32
  ![v179.toNat, 0]
def k0_off4 (d0 : Dev nD) (c0_i32_137 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c256_i32_136 : BitVec 32 := 256#32
  let v204 : BitVec 32 := Scalar.muli v13 c256_i32_136
  let v205 : BitVec 32 := Scalar.addi v204 c0_i32_137
  let c0_i32_148 : BitVec 32 := 0#32
  ![v205.toNat, 0]
def k0_dev12 (d0 : Dev nD) : Nat :=
  let c0_i32_145 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_144 : BitVec 32 := 4#32
  let v210 : BitVec 32 := Scalar.muli v2 c4_i32_144
  let v211 : BitVec 32 := Scalar.addi c0_i32_145 v210
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_146 : BitVec 32 := 2#32
  let v212 : BitVec 32 := Scalar.muli v10 c2_i32_146
  let v213 : BitVec 32 := Scalar.addi v211 v212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v214 : BitVec 32 := Scalar.muli v8 c1_i32_147
  let v215 : BitVec 32 := Scalar.addi v213 v214
  v215.toNat
def k0_dev13 (d0 : Dev nD) : Nat :=
  let c0_i32_153 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_152 : BitVec 32 := 4#32
  let v222 : BitVec 32 := Scalar.muli v2 c4_i32_152
  let v223 : BitVec 32 := Scalar.addi c0_i32_153 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_154 : BitVec 32 := 2#32
  let v224 : BitVec 32 := Scalar.muli v5 c2_i32_154
  let v225 : BitVec 32 := Scalar.addi v223 v224
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_155 : BitVec 32 := 1#32
  let v226 : BitVec 32 := Scalar.muli v11 c1_i32_155
  let v227 : BitVec 32 := Scalar.addi v225 v226
  v227.toNat
def k0_dev14 (d0 : Dev nD) : Nat :=
  let c0_i32_194 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_193 : BitVec 32 := 4#32
  let v285 : BitVec 32 := Scalar.muli v2 c4_i32_193
  let v286 : BitVec 32 := Scalar.addi c0_i32_194 v285
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_195 : BitVec 32 := 2#32
  let v287 : BitVec 32 := Scalar.muli v10 c2_i32_195
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_196 : BitVec 32 := 1#32
  let v289 : BitVec 32 := Scalar.muli v8 c1_i32_196
  let v290 : BitVec 32 := Scalar.addi v288 v289
  v290.toNat
def k0_dev15 (d0 : Dev nD) : Nat :=
  let c0_i32_202 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_201 : BitVec 32 := 4#32
  let v297 : BitVec 32 := Scalar.muli v2 c4_i32_201
  let v298 : BitVec 32 := Scalar.addi c0_i32_202 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v299 : BitVec 32 := Scalar.muli v5 c2_i32_203
  let v300 : BitVec 32 := Scalar.addi v298 v299
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_204 : BitVec 32 := 1#32
  let v301 : BitVec 32 := Scalar.muli v11 c1_i32_204
  let v302 : BitVec 32 := Scalar.addi v300 v301
  v302.toNat
def k0_dev16 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v360 : BitVec 32 := Scalar.muli v2 c4_i32_242
  let v361 : BitVec 32 := Scalar.addi c0_i32_243 v360
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_244 : BitVec 32 := 2#32
  let v362 : BitVec 32 := Scalar.muli v10 c2_i32_244
  let v363 : BitVec 32 := Scalar.addi v361 v362
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v364 : BitVec 32 := Scalar.muli v8 c1_i32_245
  let v365 : BitVec 32 := Scalar.addi v363 v364
  v365.toNat
def k0_dev17 (d0 : Dev nD) : Nat :=
  let c0_i32_251 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_250 : BitVec 32 := 4#32
  let v372 : BitVec 32 := Scalar.muli v2 c4_i32_250
  let v373 : BitVec 32 := Scalar.addi c0_i32_251 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_252 : BitVec 32 := 2#32
  let v374 : BitVec 32 := Scalar.muli v5 c2_i32_252
  let v375 : BitVec 32 := Scalar.addi v373 v374
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_253 : BitVec 32 := 1#32
  let v376 : BitVec 32 := Scalar.muli v11 c1_i32_253
  let v377 : BitVec 32 := Scalar.addi v375 v376
  v377.toNat
def k0_dev18 (d0 : Dev nD) : Nat :=
  let c0_i32_292 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_291 : BitVec 32 := 4#32
  let v435 : BitVec 32 := Scalar.muli v2 c4_i32_291
  let v436 : BitVec 32 := Scalar.addi c0_i32_292 v435
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_293 : BitVec 32 := 2#32
  let v437 : BitVec 32 := Scalar.muli v10 c2_i32_293
  let v438 : BitVec 32 := Scalar.addi v436 v437
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_294 : BitVec 32 := 1#32
  let v439 : BitVec 32 := Scalar.muli v8 c1_i32_294
  let v440 : BitVec 32 := Scalar.addi v438 v439
  v440.toNat
def k0_dev19 (d0 : Dev nD) : Nat :=
  let c0_i32_300 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_299 : BitVec 32 := 4#32
  let v447 : BitVec 32 := Scalar.muli v2 c4_i32_299
  let v448 : BitVec 32 := Scalar.addi c0_i32_300 v447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_301 : BitVec 32 := 2#32
  let v449 : BitVec 32 := Scalar.muli v5 c2_i32_301
  let v450 : BitVec 32 := Scalar.addi v448 v449
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_302 : BitVec 32 := 1#32
  let v451 : BitVec 32 := Scalar.muli v11 c1_i32_302
  let v452 : BitVec 32 := Scalar.addi v450 v451
  v452.toNat
def k0_dev20 (d0 : Dev nD) : Nat :=
  let c0_i32_341 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_340 : BitVec 32 := 4#32
  let v510 : BitVec 32 := Scalar.muli v2 c4_i32_340
  let v511 : BitVec 32 := Scalar.addi c0_i32_341 v510
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_342 : BitVec 32 := 2#32
  let v512 : BitVec 32 := Scalar.muli v10 c2_i32_342
  let v513 : BitVec 32 := Scalar.addi v511 v512
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_343 : BitVec 32 := 1#32
  let v514 : BitVec 32 := Scalar.muli v8 c1_i32_343
  let v515 : BitVec 32 := Scalar.addi v513 v514
  v515.toNat
def k0_dev21 (d0 : Dev nD) : Nat :=
  let c0_i32_349 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_348 : BitVec 32 := 4#32
  let v522 : BitVec 32 := Scalar.muli v2 c4_i32_348
  let v523 : BitVec 32 := Scalar.addi c0_i32_349 v522
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_350 : BitVec 32 := 2#32
  let v524 : BitVec 32 := Scalar.muli v5 c2_i32_350
  let v525 : BitVec 32 := Scalar.addi v523 v524
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_351 : BitVec 32 := 1#32
  let v526 : BitVec 32 := Scalar.muli v11 c1_i32_351
  let v527 : BitVec 32 := Scalar.addi v525 v526
  v527.toNat
def k0_dev22 (d0 : Dev nD) : Nat :=
  let c0_i32_390 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_389 : BitVec 32 := 4#32
  let v585 : BitVec 32 := Scalar.muli v2 c4_i32_389
  let v586 : BitVec 32 := Scalar.addi c0_i32_390 v585
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_391 : BitVec 32 := 2#32
  let v587 : BitVec 32 := Scalar.muli v10 c2_i32_391
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_392 : BitVec 32 := 1#32
  let v589 : BitVec 32 := Scalar.muli v8 c1_i32_392
  let v590 : BitVec 32 := Scalar.addi v588 v589
  v590.toNat
def k0_dev23 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v597 : BitVec 32 := Scalar.muli v2 c4_i32_397
  let v598 : BitVec 32 := Scalar.addi c0_i32_398 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v599 : BitVec 32 := Scalar.muli v5 c2_i32_399
  let v600 : BitVec 32 := Scalar.addi v598 v599
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_400 : BitVec 32 := 1#32
  let v601 : BitVec 32 := Scalar.muli v11 c1_i32_400
  let v602 : BitVec 32 := Scalar.addi v600 v601
  v602.toNat
def k0_dev24 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v660 : BitVec 32 := Scalar.muli v2 c4_i32_438
  let v661 : BitVec 32 := Scalar.addi c0_i32_439 v660
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_440 : BitVec 32 := 2#32
  let v662 : BitVec 32 := Scalar.muli v10 c2_i32_440
  let v663 : BitVec 32 := Scalar.addi v661 v662
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_441 : BitVec 32 := 1#32
  let v664 : BitVec 32 := Scalar.muli v8 c1_i32_441
  let v665 : BitVec 32 := Scalar.addi v663 v664
  v665.toNat
def k0_dev25 (d0 : Dev nD) : Nat :=
  let c0_i32_447 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_446 : BitVec 32 := 4#32
  let v672 : BitVec 32 := Scalar.muli v2 c4_i32_446
  let v673 : BitVec 32 := Scalar.addi c0_i32_447 v672
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_448 : BitVec 32 := 2#32
  let v674 : BitVec 32 := Scalar.muli v5 c2_i32_448
  let v675 : BitVec 32 := Scalar.addi v673 v674
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_449 : BitVec 32 := 1#32
  let v676 : BitVec 32 := Scalar.muli v11 c1_i32_449
  let v677 : BitVec 32 := Scalar.addi v675 v676
  v677.toNat
def k0_dev26 (d0 : Dev nD) : Nat :=
  let c0_i32_488 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_487 : BitVec 32 := 4#32
  let v735 : BitVec 32 := Scalar.muli v2 c4_i32_487
  let v736 : BitVec 32 := Scalar.addi c0_i32_488 v735
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_489 : BitVec 32 := 2#32
  let v737 : BitVec 32 := Scalar.muli v10 c2_i32_489
  let v738 : BitVec 32 := Scalar.addi v736 v737
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_490 : BitVec 32 := 1#32
  let v739 : BitVec 32 := Scalar.muli v8 c1_i32_490
  let v740 : BitVec 32 := Scalar.addi v738 v739
  v740.toNat
def k0_dev27 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v747 : BitVec 32 := Scalar.muli v2 c4_i32_495
  let v748 : BitVec 32 := Scalar.addi c0_i32_496 v747
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v749 : BitVec 32 := Scalar.muli v5 c2_i32_497
  let v750 : BitVec 32 := Scalar.addi v748 v749
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_498 : BitVec 32 := 1#32
  let v751 : BitVec 32 := Scalar.muli v11 c1_i32_498
  let v752 : BitVec 32 := Scalar.addi v750 v751
  v752.toNat
def k0_off5 (d0 : Dev nD) (c0_i32_512 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c256_i32_511 : BitVec 32 := 256#32
  let v771 : BitVec 32 := Scalar.muli v19 c256_i32_511
  let v772 : BitVec 32 := Scalar.addi v771 c0_i32_512
  let c0_i32_519 : BitVec 32 := 0#32
  ![v772.toNat, 0]
def k0_dev28 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v773 : BitVec 32 := Scalar.muli v2 c4_i32_515
  let v774 : BitVec 32 := Scalar.addi c0_i32_516 v773
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_517 : BitVec 32 := 2#32
  let v775 : BitVec 32 := Scalar.muli v10 c2_i32_517
  let v776 : BitVec 32 := Scalar.addi v774 v775
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_518 : BitVec 32 := 1#32
  let v777 : BitVec 32 := Scalar.muli v8 c1_i32_518
  let v778 : BitVec 32 := Scalar.addi v776 v777
  v778.toNat
def k0_dev29 (d0 : Dev nD) : Nat :=
  let c0_i32_536 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_535 : BitVec 32 := 4#32
  let v799 : BitVec 32 := Scalar.muli v2 c4_i32_535
  let v800 : BitVec 32 := Scalar.addi c0_i32_536 v799
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_537 : BitVec 32 := 2#32
  let v801 : BitVec 32 := Scalar.muli v10 c2_i32_537
  let v802 : BitVec 32 := Scalar.addi v800 v801
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_538 : BitVec 32 := 1#32
  let v803 : BitVec 32 := Scalar.muli v8 c1_i32_538
  let v804 : BitVec 32 := Scalar.addi v802 v803
  v804.toNat
def k0_dev30 (d0 : Dev nD) : Nat :=
  let c0_i32_556 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_555 : BitVec 32 := 4#32
  let v825 : BitVec 32 := Scalar.muli v2 c4_i32_555
  let v826 : BitVec 32 := Scalar.addi c0_i32_556 v825
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_557 : BitVec 32 := 2#32
  let v827 : BitVec 32 := Scalar.muli v10 c2_i32_557
  let v828 : BitVec 32 := Scalar.addi v826 v827
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v829 : BitVec 32 := Scalar.muli v8 c1_i32_558
  let v830 : BitVec 32 := Scalar.addi v828 v829
  v830.toNat
def k0_dev31 (d0 : Dev nD) : Nat :=
  let c0_i32_576 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_575 : BitVec 32 := 4#32
  let v851 : BitVec 32 := Scalar.muli v2 c4_i32_575
  let v852 : BitVec 32 := Scalar.addi c0_i32_576 v851
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_577 : BitVec 32 := 2#32
  let v853 : BitVec 32 := Scalar.muli v10 c2_i32_577
  let v854 : BitVec 32 := Scalar.addi v852 v853
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_578 : BitVec 32 := 1#32
  let v855 : BitVec 32 := Scalar.muli v8 c1_i32_578
  let v856 : BitVec 32 := Scalar.addi v854 v855
  v856.toNat
def k0_off6 (d0 : Dev nD) (c128_i32_592 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c256_i32_591 : BitVec 32 := 256#32
  let v875 : BitVec 32 := Scalar.muli v16 c256_i32_591
  let v876 : BitVec 32 := Scalar.addi v875 c128_i32_592
  let c0_i32_599 : BitVec 32 := 0#32
  ![v876.toNat, 0]
def k0_dev32 (d0 : Dev nD) : Nat :=
  let c0_i32_596 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_595 : BitVec 32 := 4#32
  let v877 : BitVec 32 := Scalar.muli v2 c4_i32_595
  let v878 : BitVec 32 := Scalar.addi c0_i32_596 v877
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_597 : BitVec 32 := 2#32
  let v879 : BitVec 32 := Scalar.muli v5 c2_i32_597
  let v880 : BitVec 32 := Scalar.addi v878 v879
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_598 : BitVec 32 := 1#32
  let v881 : BitVec 32 := Scalar.muli v11 c1_i32_598
  let v882 : BitVec 32 := Scalar.addi v880 v881
  v882.toNat
def k0_dev33 (d0 : Dev nD) : Nat :=
  let c0_i32_616 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_615 : BitVec 32 := 4#32
  let v903 : BitVec 32 := Scalar.muli v2 c4_i32_615
  let v904 : BitVec 32 := Scalar.addi c0_i32_616 v903
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v905 : BitVec 32 := Scalar.muli v5 c2_i32_617
  let v906 : BitVec 32 := Scalar.addi v904 v905
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_618 : BitVec 32 := 1#32
  let v907 : BitVec 32 := Scalar.muli v11 c1_i32_618
  let v908 : BitVec 32 := Scalar.addi v906 v907
  v908.toNat
def k0_dev34 (d0 : Dev nD) : Nat :=
  let c0_i32_636 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_635 : BitVec 32 := 4#32
  let v929 : BitVec 32 := Scalar.muli v2 c4_i32_635
  let v930 : BitVec 32 := Scalar.addi c0_i32_636 v929
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_637 : BitVec 32 := 2#32
  let v931 : BitVec 32 := Scalar.muli v5 c2_i32_637
  let v932 : BitVec 32 := Scalar.addi v930 v931
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_638 : BitVec 32 := 1#32
  let v933 : BitVec 32 := Scalar.muli v11 c1_i32_638
  let v934 : BitVec 32 := Scalar.addi v932 v933
  v934.toNat
def k0_dev35 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v955 : BitVec 32 := Scalar.muli v2 c4_i32_655
  let v956 : BitVec 32 := Scalar.addi c0_i32_656 v955
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_657 : BitVec 32 := 2#32
  let v957 : BitVec 32 := Scalar.muli v5 c2_i32_657
  let v958 : BitVec 32 := Scalar.addi v956 v957
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_658 : BitVec 32 := 1#32
  let v959 : BitVec 32 := Scalar.muli v11 c1_i32_658
  let v960 : BitVec 32 := Scalar.addi v958 v959
  v960.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x1024, .f32⟩
  | .hbm, ⟨18, _⟩ => ⟨S1024x1024, .f32⟩
  | .hbm, ⟨19, _⟩ => ⟨S1x1024, .f32⟩
  | .hbm, ⟨20, _⟩ => ⟨S1024x1024, .f32⟩
  | .hbm, ⟨21, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KIProg.lean ====
/-
# The kernel body as a few loops of steps

`body_eq`: the printed body is the sequence of three signals, a wait, and ten short loops over row chunks.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The programs of a TensorCore of this kernel. -/
abbrev P (F : FTy → Type) [FloatOps F] (α : Type) : Type 1 := Prog (TpuEff nD τ sig (Elt F) Λ₀ .tc) α

/-- `f 0`, `f 1`, …, `f (n - 1)` one after the other. -/
def seqFin : (n : ℕ) → (Fin n → P F PUnit) → P F PUnit
  | 0, _ => .ret ⟨⟩
  | n + 1, f => (f 0).bind fun _ => seqFin n fun i => f i.succ

/-! ## The memrefs and the semaphores -/

abbrev pM : Memref sig .tc .vmem S1x1024x1024 .f32 := Memref.whole cc0_stg0_0
abbrev rM : Memref sig .tc .vmem S1024x1024 .f32 := Memref.whole cc0_stg1_0
abbrev gM : Memref sig .tc .vmem S1024 .f32 := Memref.whole cc0_stg2_0
abbrev oM : Memref sig .tc .vmem S1024x1024 .f32 := Memref.whole cc0_stg3_0
abbrev cM : Memref sig .tc .vmem S256x1024 .f32 := Memref.whole cc0_scratch0

/-- Element `i` of an array of eight lies in it. -/
theorem inb8 (i : Fin 8) : ∀ a, (![i.val] : Fin 1 → Nat) a + S1.size a ≤ S8.size a := by
  intro a; fin_cases a; have := i.isLt; show i.val + 1 ≤ 8; omega
/-- Element `i` of an array of four lies in it. -/
theorem inb4 (i : Fin 4) : ∀ a, (![i.val] : Fin 1 → Nat) a + S1.size a ≤ S4.size a := by
  intro a; fin_cases a; have := i.isLt; show i.val + 1 ≤ 4; omega
/-- Row chunk `i` of the eight of the landing buffer lies in it. -/
theorem inbC (i : Fin 8) : ∀ a, (![32 * i.val, 0] : Fin 2 → Nat) a + S32x1024.size a ≤ S256x1024.size a := by
  intro a; have := i.isLt; fin_cases a
  · show 32 * i.val + 32 ≤ 256; omega
  · show 0 + 1024 ≤ 1024; omega

/-- Element `i` of an array of eight DMA semaphores. -/
abbrev at8 (A : DmaSems sig S8) (i : Fin 8) : DmaSem sig :=
  ((A.slice (Rect.unit (s := S8) ![i.val] S1.size (inb8 i))).squeeze S_ squeezes_S1_S_).sem
/-- Element `i` of an array of four DMA semaphores. -/
abbrev at4 (A : DmaSems sig S4) (i : Fin 4) : DmaSem sig :=
  ((A.slice (Rect.unit (s := S4) ![i.val] S1.size (inb4 i))).squeeze S_ squeezes_S1_S_).sem

/-- The first four of eight chunks. -/
abbrev lo (i : Fin 4) : Fin 8 := ⟨i.val, by omega⟩
/-- The last four of eight chunks. -/
abbrev hi (i : Fin 4) : Fin 8 := ⟨4 + i.val, by omega⟩

/-- Chunk `i` of the rows device `d` works out, of its `p`. -/
abbrev pSl (d : Dev nD) (i : Fin 8) : Memref sig .tc .vmem S32x1024 .f32 :=
  (pM.slice (Rect.unit (s := S1x1024x1024) (k0_off1 d (BitVec.ofNat 32 (32 * i.val))) S1x32x1024.size (k0_off1_inb d i)) (fun _ => rfl)).squeeze
    S32x1024 squeezes_S1x32x1024_S32x1024
/-- Chunk `i` of the landing buffer. -/
abbrev cSl (i : Fin 8) : Memref sig .tc .vmem S32x1024 .f32 :=
  cM.slice (Rect.unit (s := S256x1024) ![32 * i.val, 0] S32x1024.size (inbC i)) (fun _ => rfl)
/-- Chunk `i` of the rows device `d` works out, of its result. -/
abbrev oSl (d : Dev nD) (i : Fin 8) : Memref sig .tc .vmem S32x1024 .f32 :=
  oM.slice (Rect.unit (s := S1024x1024) (k0_off4 d (BitVec.ofNat 32 (32 * i.val))) S32x1024.size (k0_off4_inb d i)) (fun _ => rfl)
/-- Chunk `i < 4` of the rows its neighbour along `z` works out, of its result. -/
abbrev oSlZ (d : Dev nD) (i : Fin 4) : Memref sig .tc .vmem S32x1024 .f32 :=
  oM.slice (Rect.unit (s := S1024x1024) (k0_off5 d (BitVec.ofNat 32 (32 * i.val))) S32x1024.size (k0_off5_inb d i)) (fun _ => rfl)
/-- Chunk `4 + i` of the rows its neighbour along `y` works out, of its result. -/
abbrev oSlY (d : Dev nD) (i : Fin 4) : Memref sig .tc .vmem S32x1024 .f32 :=
  oM.slice (Rect.unit (s := S1024x1024) (k0_off6 d (BitVec.ofNat 32 (128 + 32 * i.val))) S32x1024.size (k0_off6_inb d i)) (fun _ => rfl)

/-- The rectangles the chunk's four operands are loaded through. -/
abbrev pR (d : Dev nD) (i : Fin 8) : Rect S1x1024x1024 :=
  Rect.unit (s := S1x1024x1024) (k0_off2 d (BitVec.ofNat 32 (32 * i.val))) S1x32x1024.size (k0_off2_inb d i)
abbrev cR (i : Fin 8) : Rect S256x1024 := Rect.unit (s := S256x1024) ![32 * i.val, 0] S32x1024.size (inbC i)
abbrev rR (d : Dev nD) (i : Fin 8) : Rect S1024x1024 :=
  Rect.unit (s := S1024x1024) (k0_off3 d (BitVec.ofNat 32 (32 * i.val))) S32x1024.size (k0_off3_inb d i)
abbrev gR : Rect S1024 := Rect.unit (s := S1024) ![0] S1024.size inb_S1024_S1024_0

/-- The neighbours the kernel addresses, as it works out their numbers. -/
abbrev xd (d : Dev nD) : Dev nD := ⟨k0_dev1 d, k0_dev1_lt d⟩
abbrev yd (d : Dev nD) : Dev nD := ⟨k0_dev2 d, k0_dev2_lt d⟩
abbrev zd (d : Dev nD) : Dev nD := ⟨k0_dev3 d, k0_dev3_lt d⟩

abbrev barS : Sem sig := (SemArray.scalar (sig.barrier 0 rfl) : Sems sig S_).sem

/-- The 32 normalised rows, of the rows of the two summands, of the residual and of the scale. -/
abbrev chunkPay (vp : Vec F S1x32x1024 .f32) (vc vr : Vec F S32x1024 .f32) (vg : Vec F S1024 .f32) : FVec F S32x1024 .f32 :=
  k0_pay3 (k0_pay1 vp vc vr) (k0_pay2 vg)

/-! ## The steps -/

/-- Send chunk `i` of `p` to the neighbour along `x`. -/
def xSend (d : Dev nD) (i : Fin 8) : P F PUnit :=
  Prog.lift (.enqueueDma (pSl d i) (.remote (Dev.tc (xd d)) (cSl i) (.dma (at8 cc0_scratch1 i))) (.dma (at8 cc0_scratch2 i))
    ((View.wordExact_bits rfl).reshape _ _) (View.wordExact_bits rfl) ⟨⟨rfl, Or.inl rfl⟩, trivial⟩)

/-- Send the rows `m` of the result to the same rows of device `n`. -/
def oSend (n : Dev nD) (m : Memref sig .tc .vmem S32x1024 .f32) (hm : m.view.WordExact) (hs : m.view.ref.isScScratch = false)
    (sS sR : DmaSem sig) : P F PUnit :=
  Prog.lift (.enqueueDma m (.remote (Dev.tc n) m (.dma sS) hs) (.dma sR) hm hm ⟨⟨rfl, Or.inl rfl⟩, trivial⟩)

/-- Wait on `s` for the bytes of the transfer from `m` to `m'`. -/
def dWait (s : DmaSem sig) (m m' : Memref sig .tc .vmem S32x1024 .f32) (h : m.view.WordExact) (h' : m'.view.WordExact) : P F PUnit :=
  Prog.lift (.waitDma2 s m m' h h')

/-- Receive chunk `i` of the other summand, work the rows out, store them. -/
def work (d : Dev nD) (i : Fin 8) : P F PUnit :=
  .op (.waitDma2 (at8 cc0_scratch2 i) (pSl d i) (cSl i) ((View.wordExact_bits rfl).reshape _ _) (View.wordExact_bits rfl)) fun _ =>
  .op (.load pM (pR d i).toLoadRect (View.loadsAt_vmem h_S1x32x1024)) fun vp =>
  .op (.load cM (cR i).toLoadRect (View.loadsAt_vmem h_S32x1024)) fun vc =>
  .op (.load rM (rR d i).toLoadRect (View.loadsAt_vmem h_S32x1024)) fun vr =>
  .op (.load gM gR.toLoadRect (View.loadsAt_vmem h_S1024)) fun vg =>
  .op (.load oM (rR d i).toLoadRect (View.loadsAt_vmem h_S32x1024)) fun _ =>
  .op (.store oM (rR d i) (chunkPay vp vc vr vg) Finset.univ (View.stores_vmem_bits_univ h_S32x1024 rfl) (.inl rfl)) .ret

/-- Send chunk `i` just worked out to the neighbours along `y` and `z`. -/
def share (d : Dev nD) (i : Fin 8) : P F PUnit :=
  (oSend (yd d) (oSl d i) (View.wordExact_bits rfl) rfl (at8 cc0_scratch3 i) (at8 cc0_scratch4 i)).bind fun _ =>
  oSend (zd d) (oSl d i) (View.wordExact_bits rfl) rfl (at8 cc0_scratch5 i) (at8 cc0_scratch6 i)

/-- Receive chunk `i < 4` from the neighbour along `z` and pass it on along `y`. -/
def passY (d : Dev nD) (i : Fin 4) : P F PUnit :=
  (dWait (at8 cc0_scratch6 (lo i)) (oSl d (lo i)) (oSl d (lo i)) (View.wordExact_bits rfl) (View.wordExact_bits rfl)).bind fun _ =>
  oSend (yd d) (oSlZ d i) (View.wordExact_bits rfl) rfl (at4 cc0_scratch7 i) (at4 cc0_scratch8 i)

/-- Receive chunk `4 + i` from the neighbour along `y` and pass it on along `z`. -/
def passZ (d : Dev nD) (i : Fin 4) : P F PUnit :=
  (dWait (at8 cc0_scratch4 (hi i)) (oSl d (hi i)) (oSl d (hi i)) (View.wordExact_bits rfl) (View.wordExact_bits rfl)).bind fun _ =>
  oSend (zd d) (oSlY d i) (View.wordExact_bits rfl) rfl (at4 cc0_scratch9 i) (at4 cc0_scratch10 i)

/-- A wait for a chunk of the rows worked out. -/
def oWait (s : DmaSem sig) (d : Dev nD) (i : Fin 8) : P F PUnit :=
  dWait s (oSl d i) (oSl d i) (View.wordExact_bits rfl) (View.wordExact_bits rfl)
/-- A wait for a chunk passed on along `y`. -/
def zWait (s : DmaSem sig) (d : Dev nD) (i : Fin 4) : P F PUnit :=
  dWait s (oSlZ d i) (oSlZ d i) (View.wordExact_bits rfl) (View.wordExact_bits rfl)
/-- A wait for a chunk passed on along `z`. -/
def yWait (s : DmaSem sig) (d : Dev nD) (i : Fin 4) : P F PUnit :=
  dWait s (oSlY d i) (oSlY d i) (View.wordExact_bits rfl) (View.wordExact_bits rfl)
/-- A wait for a chunk of `p` to have been sent. -/
def xWait (d : Dev nD) (i : Fin 8) : P F PUnit :=
  dWait (at8 cc0_scratch1 i) (cSl i) (pSl d i) (View.wordExact_bits rfl) ((View.wordExact_bits rfl).reshape _ _)

/-- The waits after the last send. -/
def drain (d : Dev nD) : P F PUnit :=
  (seqFin 4 fun i => oWait (at8 cc0_scratch4 (lo i)) d (lo i)).bind fun _ =>
  (seqFin 4 fun i => oWait (at8 cc0_scratch6 (hi i)) d (hi i)).bind fun _ =>
  (seqFin 4 fun i => zWait (at4 cc0_scratch8 i) d i).bind fun _ =>
  (seqFin 4 fun i => yWait (at4 cc0_scratch10 i) d i).bind fun _ =>
  (seqFin 8 fun i => xWait d i).bind fun _ =>
  (seqFin 8 fun i => oWait (at8 cc0_scratch3 i) d i).bind fun _ =>
  (seqFin 8 fun i => oWait (at8 cc0_scratch5 i) d i).bind fun _ =>
  (seqFin 4 fun i => zWait (at4 cc0_scratch7 i) d i).bind fun _ =>
  seqFin 4 fun i => yWait (at4 cc0_scratch9 i) d i

/-- The transfers, after the handshake. -/
def talk (d : Dev nD) : P F PUnit :=
  (seqFin 8 fun i => xSend d i).bind fun _ =>
  (seqFin 8 fun i => (work d i).bind fun _ => share d i).bind fun _ =>
  (seqFin 4 fun i => passY d i).bind fun _ =>
  (seqFin 4 fun i => passZ d i).bind fun _ =>
  drain d

/-- The body: the handshake with the three neighbours, then the transfers. -/
def body : P F PUnit :=
  .op .deviceId fun d =>
  .op (.semSignal (Dev.tc (xd d)) barS 1) fun _ =>
  .op (.semSignal (Dev.tc (yd d)) barS 1) fun _ =>
  .op (.semSignal (Dev.tc (zd d)) barS 1) fun _ =>
  .op (.semWait barS 3) fun _ =>
  talk d

set_option maxRecDepth 65536 in
set_option maxHeartbeats 4000000 in
/-- The printed body, at the buffers it is called on, is `body`. -/
theorem body_eq :
    cc0_body (F := F) pM (Memref.isWhole_whole _) rM (Memref.isWhole_whole _) gM (Memref.isWhole_whole _) oM (Memref.isWhole_whole _)
      cM (Memref.isWhole_whole _) cc0_scratch1 cc0_scratch2 cc0_scratch3 cc0_scratch4 cc0_scratch5 cc0_scratch6 cc0_scratch7 cc0_scratch8
      cc0_scratch9 cc0_scratch10 = body (F := F) := by
  rw [cc0_body_eq_skeleton]
  rfl

end Cert.KernelIdeal.Hand
-- ==== Proof.KIProto.lean ====
/-
# The protocol of the transfers

The neighbours on the mesh, the semaphore cells, what every cell's units hand over, and what each device owes.
-/
module

public import proofs.«01_k».proof.Proof.KIProg
public import Idealize.ShloMosaic.Lib.MemrefSat

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The duties of the cells: a barrier cell has one for each direction of the mesh. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The mesh -/

/-- The neighbour along `x`. -/
def xn (c : Dev nD) : Dev nD := ⟨(c.val + 4) % 8, Nat.mod_lt _ (by decide)⟩
/-- The neighbour along `y`. -/
def yn (c : Dev nD) : Dev nD := ⟨4 * (c.val / 4) + (c.val + 2) % 4, by have h : c.val < 8 := c.isLt; show _ < 8; omega⟩
/-- The neighbour along `z`. -/
def zn (c : Dev nD) : Dev nD := ⟨2 * (c.val / 2) + (c.val + 1) % 2, by have h : c.val < 8 := c.isLt; show _ < 8; omega⟩
/-- The device across the plane. -/
def dg (c : Dev nD) : Dev nD := zn (yn c)
/-- The block of rows a device works out. -/
def bk (c : Dev nD) : Fin 4 := ⟨c.val % 4, Nat.mod_lt _ (by decide)⟩

/-- The neighbour along `x` of the neighbour along `x` is the device itself. -/
theorem xn_xn (c : Dev nD) : xn (xn c) = c := by revert c; decide
/-- The neighbour along `y` of the neighbour along `y` is the device itself. -/
theorem yn_yn (c : Dev nD) : yn (yn c) = c := by revert c; decide
/-- The neighbour along `z` of the neighbour along `z` is the device itself. -/
theorem zn_zn (c : Dev nD) : zn (zn c) = c := by revert c; decide
/-- Along `z` and then along `y` is the diagonal device. -/
theorem yn_zn (c : Dev nD) : yn (zn c) = dg c := by revert c; decide
/-- The diagonal device of the neighbour along `y` is the neighbour along `z`. -/
theorem dg_yn (c : Dev nD) : dg (yn c) = zn c := by revert c; decide
/-- The diagonal device of the neighbour along `z` is the neighbour along `y`. -/
theorem dg_zn (c : Dev nD) : dg (zn c) = yn c := by revert c; decide
/-- Neighbours along `x` have the same block of rows. -/
theorem bk_xn (c : Dev nD) : bk (xn c) = bk c := by revert c; decide
/-- The device that the program computes for `x` is the neighbour along `x`. -/
theorem xd_eq (c : Dev nD) : xd c = xn c := by revert c; decide
/-- The device that the program computes for `y` is the neighbour along `y`. -/
theorem yd_eq (c : Dev nD) : yd c = yn c := by revert c; decide
/-- The device that the program computes for `z` is the neighbour along `z`. -/
theorem zd_eq (c : Dev nD) : zd c = zn c := by revert c; decide

/-! ## The row chunks -/

/-- Chunk `i` of block `k` of the rows lies in the array. -/
theorem inbO (k : Fin 4) (i : Fin 8) : ∀ a, (![256 * k.val + 32 * i.val, 0] : Fin 2 → Nat) a + S32x1024.size a ≤ S1024x1024.size a := by
  intro a; have := i.isLt; have := k.isLt; fin_cases a
  · show 256 * k.val + 32 * i.val + 32 ≤ 1024; omega
  · show 0 + 1024 ≤ 1024; omega

abbrev oR (k : Fin 4) (i : Fin 8) : Rect S1024x1024 := Rect.unit (s := S1024x1024) ![256 * k.val + 32 * i.val, 0] S32x1024.size (inbO k i)
/-- Chunk `i` of block `k` of the result. -/
abbrev oC (k : Fin 4) (i : Fin 8) : Memref sig .tc .vmem S32x1024 .f32 := oM.slice (oR k i) (fun _ => rfl)

/-- Slices of the result at equal offsets are equal. -/
theorem oslice_congr {off off' : Fin 2 → Nat} (h : off = off') (inb : ∀ a, off a + S32x1024.size a ≤ S1024x1024.size a)
    (inb' : ∀ a, off' a + S32x1024.size a ≤ S1024x1024.size a) :
    oM.slice (Rect.unit (s := S1024x1024) off S32x1024.size inb) (fun _ => rfl)
      = oM.slice (Rect.unit (s := S1024x1024) off' S32x1024.size inb') (fun _ => rfl) := by subst h; rfl
/-- Rectangles of the result at equal offsets are equal. -/
theorem orect_congr {off off' : Fin 2 → Nat} (h : off = off') (inb : ∀ a, off a + S32x1024.size a ≤ S1024x1024.size a)
    (inb' : ∀ a, off' a + S32x1024.size a ≤ S1024x1024.size a) :
    Rect.unit (s := S1024x1024) off S32x1024.size inb = Rect.unit (s := S1024x1024) off' S32x1024.size inb' := by subst h; rfl

/-- Where the loads and the store of chunk `i` begin in the rows. -/
theorem off3_row : ∀ (c : Dev nD) (i : Fin 8), k0_off3 c (BitVec.ofNat 32 (32 * i.val)) = ![256 * (bk c).val + 32 * i.val, 0] := by decide +kernel
/-- Where chunk `i` shared with the neighbours begins in the result. -/
theorem off4_row : ∀ (c : Dev nD) (i : Fin 8), k0_off4 c (BitVec.ofNat 32 (32 * i.val)) = ![256 * (bk c).val + 32 * i.val, 0] := by decide +kernel
/-- Where chunk `i` passed on along `y` begins in the result: in the block of the neighbour along `z`, lower half. -/
theorem off5_row : ∀ (c : Dev nD) (i : Fin 4), k0_off5 c (BitVec.ofNat 32 (32 * i.val)) = ![256 * (bk (zn c)).val + 32 * (lo i).val, 0] := by
  decide +kernel
/-- Where chunk `i` passed on along `z` begins in the result: in the block of the neighbour along `y`, upper half. -/
theorem off6_row : ∀ (c : Dev nD) (i : Fin 4), k0_off6 c (BitVec.ofNat 32 (128 + 32 * i.val)) = ![256 * (bk (yn c)).val + 32 * (hi i).val, 0] := by
  decide +kernel

/-- The slice shared with the neighbours is chunk `i` of the device's own block. -/
theorem oSl_eq (c : Dev nD) (i : Fin 8) : oSl c i = oC (bk c) i := oslice_congr (off4_row c i) _ _
/-- The slice passed on along `y` is a lower chunk of the block of the neighbour along `z`. -/
theorem oSlZ_eq (c : Dev nD) (i : Fin 4) : oSlZ c i = oC (bk (zn c)) (lo i) := oslice_congr (off5_row c i) _ _
/-- The slice passed on along `z` is an upper chunk of the block of the neighbour along `y`. -/
theorem oSlY_eq (c : Dev nD) (i : Fin 4) : oSlY c i = oC (bk (yn c)) (hi i) := oslice_congr (off6_row c i) _ _
/-- The rectangle of the loads and the store is chunk `i` of the device's own block. -/
theorem rR_eq (c : Dev nD) (i : Fin 8) : rR c i = oR (bk c) i := orect_congr (off3_row c i) _ _

/-! ## The channels and the cells -/

/-- The kinds of transfer with eight chunks: along `x`, `y`, `z`, at the sending (`s`) and at the receiving (`r`) end. -/
inductive K8 | xs | xr | ys | yr | zs | zr
  deriving DecidableEq
/-- The kinds of transfer with four chunks: those passed on along `y` and `z`. -/
inductive K4 | ys | yr | zs | zr
  deriving DecidableEq

instance : Fintype K8 := ⟨{.xs, .xr, .ys, .yr, .zs, .zr}, fun x => by cases x <;> decide⟩
instance : Fintype K4 := ⟨{.ys, .yr, .zs, .zr}, fun x => by cases x <;> decide⟩

/-- The ends of transfers. -/
abbrev Ch : Type := (K8 × Fin 8) ⊕ (K4 × Fin 4)

/-- The semaphore of an end. -/
def chSem : Ch → DmaSem sig
  | .inl (.xs, i) => at8 cc0_scratch1 i
  | .inl (.xr, i) => at8 cc0_scratch2 i
  | .inl (.ys, i) => at8 cc0_scratch3 i
  | .inl (.yr, i) => at8 cc0_scratch4 i
  | .inl (.zs, i) => at8 cc0_scratch5 i
  | .inl (.zr, i) => at8 cc0_scratch6 i
  | .inr (.ys, i) => at4 cc0_scratch7 i
  | .inr (.yr, i) => at4 cc0_scratch8 i
  | .inr (.zs, i) => at4 cc0_scratch9 i
  | .inr (.zr, i) => at4 cc0_scratch10 i

/-- The end a semaphore is of, if any. -/
def chOf (s : DmaSem sig) : Option Ch :=
  match (s.val - 4) / 8, (s.val - 4) / 4 with
  | 0, _ => if s.val < 4 then none else some (.inl (.xs, ⟨(s.val - 4) % 8, Nat.mod_lt _ (by decide)⟩))
  | 1, _ => some (.inl (.xr, ⟨(s.val - 4) % 8, Nat.mod_lt _ (by decide)⟩))
  | 2, _ => some (.inl (.ys, ⟨(s.val - 4) % 8, Nat.mod_lt _ (by decide)⟩))
  | 3, _ => some (.inl (.yr, ⟨(s.val - 4) % 8, Nat.mod_lt _ (by decide)⟩))
  | 4, _ => some (.inl (.zs, ⟨(s.val - 4) % 8, Nat.mod_lt _ (by decide)⟩))
  | 5, _ => some (.inl (.zr, ⟨(s.val - 4) % 8, Nat.mod_lt _ (by decide)⟩))
  | _, 12 => some (.inr (.ys, ⟨(s.val - 4) % 4, Nat.mod_lt _ (by decide)⟩))
  | _, 13 => some (.inr (.yr, ⟨(s.val - 4) % 4, Nat.mod_lt _ (by decide)⟩))
  | _, 14 => some (.inr (.zs, ⟨(s.val - 4) % 4, Nat.mod_lt _ (by decide)⟩))
  | _, 15 => some (.inr (.zr, ⟨(s.val - 4) % 4, Nat.mod_lt _ (by decide)⟩))
  | _, _ => none

/-- The end that an end's semaphore is of is that end. -/
theorem chOf_chSem : ∀ ch : Ch, chOf (chSem ch) = some ch := by decide +kernel

/-- The semaphores of the protocol: the barrier and the ends' ones. -/
def ksem : Option Ch → SemLoc sig
  | none => .reg barS
  | some ch => .dma (chSem ch)
/-- Which of the protocol's semaphores one is, if any. -/
def kOf : SemLoc sig → Option (Option Ch)
  | .reg s => if s = barS then some none else none
  | .dma s => (chOf s).map some

/-- A semaphore of the protocol is recognised as the one it is. -/
theorem kOf_ksem (k : Option Ch) : kOf (ksem k) = some k := by
  cases k with
  | none => show (if barS = barS then some none else none : Option (Option Ch)) = some none; exact if_pos rfl
  | some ch => show (chOf (chSem ch)).map some = _; rw [chOf_chSem]; rfl
/-- Different protocol semaphores are different. -/
theorem ksem_inj : Function.Injective ksem := fun a b h => Option.some.inj (by rw [← kOf_ksem a, ← kOf_ksem b, h])

/-- The cell of a semaphore of the protocol on a device. -/
abbrev kcell (ck : Dev nD × Option Ch) : GSem nD τ sig := ((ck.1 : Thread nD τ), ksem ck.2)

/-- The bytes of a chunk, in a DMA semaphore's units. -/
abbrev N : ℕ := (cSl 0).view.dmaCredit
/-- A chunk has a positive number of units. -/
theorem N_pos : 0 < N := View.dmaCredit_pos _ (by decide)

/-- Who raises an end's semaphore: the device itself at a sending end, its neighbour at a receiving one. -/
def nb : Ch → Dev nD → Dev nD
  | .inl (.xr, _) => xn
  | .inl (.yr, _) => yn
  | .inl (.zr, _) => zn
  | .inr (.yr, _) => yn
  | .inr (.zr, _) => zn
  | _ => id
/-- Raising is mutual: the raiser of the raiser is the device itself. -/
theorem nb_nb (ch : Ch) (c : Dev nD) : nb ch (nb ch c) = c := by
  rcases ch with ⟨k, i⟩ | ⟨k, i⟩ <;> cases k <;> first | rfl | exact xn_xn c | exact yn_yn c | exact zn_zn c

/-- The neighbours that raise the barrier. -/
def nb3 : Fin 3 → Dev nD → Dev nD := fun d => ![xn, yn, zn] d
/-- The neighbour in direction `d` of the neighbour in direction `d` is the device itself. -/
theorem nb3_nb3 (d : Fin 3) (c : Dev nD) : nb3 d (nb3 d c) = c := by
  fin_cases d
  · exact xn_xn c
  · exact yn_yn c
  · exact zn_zn c

/-! ## Contents -/

variable (m : (ℓ : Loc nD τ sig) → Buf (Elt F) ℓ) (ρ : Dev nD → PrngReg)

/-- The memory at launch. -/
def s₀ : MemSt nD τ sig (Elt F) := ⟨m, fun _ => 0, ρ⟩

/-- What device `c` has of the summands, the residual and the scale. -/
def pstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def gstg (c : Dev nD) : (cc0_stg2_0 : Ref sig .tc).ty.Contents (Elt F) :=
  (win0_2.blk (0 : Fin 1)).view.read (Elt F) ((s₀ m ρ).mem ((c : Thread nD τ).loc main_arg2))

/-- Chunk `i` of the summand device `c` sends. -/
def xRows (c : Dev nD) (i : Fin 8) : Vec F S32x1024 .f32 := (pSl c i).view.read (Elt F) (pstg m ρ c)
/-- Chunk `i` of the rows device `c` works out. -/
def V (c : Dev nD) (i : Fin 8) : Vec F S32x1024 .f32 :=
  chunkPay (pM.view.readAt (Elt F) (pR c i).toLoadRect (pstg m ρ c)) (xRows m ρ (xn c) i)
    (rM.view.readAt (Elt F) (rR c i).toLoadRect (rstg m ρ c)) (gM.view.readAt (Elt F) gR.toLoadRect (gstg m ρ c))

/-- A share of chunk `i` of device `c`'s own summand. -/
def pPart (c : Dev nD) (i : Fin 8) : sProp 𝕄 :=
  pM.view.loc (c : Thread nD τ) ↦[(pSl c i).view.set]{fullShare.right} pstg m ρ c
/-- Chunk `i` of block `k` of device `c`'s result, or of its landing buffer, at unknown contents. -/
def anyO (c : Dev nD) (k : Fin 4) (i : Fin 8) : sProp 𝕄 := ownsSatTc c (oC k i) fullShare fun _ => True
def anyC (c : Dev nD) (i : Fin 8) : sProp 𝕄 := ownsSatTc c (cSl i) fullShare fun _ => True
/-- Chunk `i` of device `e`'s rows, worked out, in device `c`'s result. -/
def hasO (c e : Dev nD) (i : Fin 8) (q : PosShare TreeShare) : sProp 𝕄 := ownsTc c (oC (bk e) i) q (V m ρ e i)
/-- Chunk `i` of the other summand, in device `c`'s landing buffer. -/
def hasC (c : Dev nD) (i : Fin 8) : sProp 𝕄 := ownsTc c (cSl i) fullShare (xRows m ρ (xn c) i)

omit [FloatOps F] in
instance pPart_storable (c : Dev nD) (i) : BI.Storable (upEmb : UEmb _ 𝕄) (pPart m ρ c i) := by unfold pPart; infer_instance
omit [FloatOps F] in
instance anyO_storable (c : Dev nD) (k i) : BI.Storable (upEmb : UEmb _ 𝕄) (anyO (F := F) c k i) := by unfold anyO; infer_instance
omit [FloatOps F] in
instance anyC_storable (c : Dev nD) (i) : BI.Storable (upEmb : UEmb _ 𝕄) (anyC (F := F) c i) := by unfold anyC; infer_instance
instance hasO_storable (c e : Dev nD) (i q) : BI.Storable (upEmb : UEmb _ 𝕄) (hasO m ρ c e i q) := by unfold hasO; infer_instance
omit [FloatOps F] in
instance hasC_storable (c : Dev nD) (i) : BI.Storable (upEmb : UEmb _ 𝕄) (hasC m ρ c i) := by unfold hasC; infer_instance

/-! ## The schedule -/

/-- What an end's units hand to device `c`. -/
def chPay (c : Dev nD) : Ch → sProp 𝕄
  | .inl (.xs, i) => pPart m ρ c i
  | .inl (.xr, i) => hasC m ρ c i
  | .inl (.ys, i) => hasO m ρ c c i fullShare.left
  | .inl (.yr, i) => hasO m ρ c (yn c) i fullShare
  | .inl (.zs, i) => hasO m ρ c c i fullShare.right
  | .inl (.zr, i) => hasO m ρ c (zn c) i fullShare
  | .inr (.ys, i) => hasO m ρ c (zn c) (lo i) fullShare
  | .inr (.yr, i) => hasO m ρ c (dg c) (lo i) fullShare
  | .inr (.zs, i) => hasO m ρ c (yn c) (hi i) fullShare
  | .inr (.zr, i) => hasO m ρ c (dg c) (hi i) fullShare

/-- What the neighbours' signals hand to device `c`: the places it will send to. -/
def barPay (c : Dev nD) : Fin 3 → sProp 𝕄
  | ⟨0, _⟩ => bigSep Finset.univ fun i : Fin 8 => anyC (F := F) (xn c) i
  | ⟨1, _⟩ => iprop((bigSep Finset.univ fun i : Fin 8 => anyO (F := F) (yn c) (bk c) i)
      ∗ bigSep Finset.univ fun i : Fin 4 => anyO (F := F) (yn c) (bk (zn c)) (lo i))
  | ⟨2, _⟩ => iprop((bigSep Finset.univ fun i : Fin 8 => anyO (F := F) (zn c) (bk c) i)
      ∗ bigSep Finset.univ fun i : Fin 4 => anyO (F := F) (zn c) (bk (yn c)) (hi i))

instance chPay_storable (c : Dev nD) (ch : Ch) : BI.Storable (upEmb : UEmb _ 𝕄) (chPay m ρ c ch) := by
  rcases ch with ⟨k, i⟩ | ⟨k, i⟩ <;> cases k <;> dsimp only [chPay] <;> infer_instance
omit [FloatOps F] in
instance barPay_storable (c : Dev nD) (d : Fin 3) : BI.Storable (upEmb : UEmb _ 𝕄) (barPay (F := F) c d) := by
  fin_cases d <;> dsimp only [barPay] <;> infer_instance

/-- The protocol: every cell has one round; a barrier cell's has three duties of a unit each, an end's one duty of a chunk's bytes. -/
def Rd : Rounds.Schedule (GSem nD τ sig) (Fin 3) 𝕄 where
  duties g r := if r = 0 ∧ g.1.2 = .tc then (match kOf g.2 with | some none => Finset.univ | some (some _) => {0} | none => ∅) else ∅
  unitless _ := False
  amount g _ _ := if kOf g.2 = some none then 1 else N
  payload g _ d := match kOf g.2 with
    | some none => barPay g.1.1 d
    | some (some ch) => chPay m ρ g.1.1 ch
    | none => iprop(emp)
  amount_pos g _ _ _ := by
    by_cases h : kOf g.2 = some none
    · rw [if_pos h]; exact Nat.one_pos
    · rw [if_neg h]; exact N_pos

instance Rd_payload_storable (g : GSem nD τ sig) (r : ℕ) (d : Fin 3) : BI.Storable (upEmb : UEmb _ 𝕄) ((Rd (F := F) m ρ).payload g r d) := by
  dsimp only [Rd]
  split <;> infer_instance

section Tables
variable (c : Dev nD) (ch : Ch)

/-- A barrier cell has a duty for each of the three directions. -/
theorem duties_bar : (Rd (F := F) m ρ).duties (kcell (c, none)) 0 = Finset.univ := by
  dsimp only [Rd]; rw [if_pos ⟨rfl, rfl⟩, kOf_ksem]
/-- A transfer cell has one duty. -/
theorem duties_ch : (Rd (F := F) m ρ).duties (kcell (c, some ch)) 0 = {0} := by
  dsimp only [Rd]; rw [if_pos ⟨rfl, rfl⟩, kOf_ksem]
/-- No cell has a duty after the first round. -/
theorem duties_later (g : GSem nD τ sig) : ∀ r, 1 ≤ r → (Rd (F := F) m ρ).duties g r = ∅ :=
  fun r hr => by dsimp only [Rd]; rw [if_neg fun h => by omega]
/-- Each duty of a barrier cell is one unit. -/
theorem amount_bar (d : Fin 3) : (Rd (F := F) m ρ).amount (kcell (c, none)) 0 d = 1 := by
  dsimp only [Rd]; rw [kOf_ksem]; exact if_pos rfl
/-- The duty of a transfer cell is a chunk's units. -/
theorem amount_ch (d : Fin 3) : (Rd (F := F) m ρ).amount (kcell (c, some ch)) 0 d = N := by
  dsimp only [Rd]; rw [kOf_ksem]; exact if_neg (fun h => by cases h)
/-- A barrier cell expects three units. -/
theorem expect_bar : (Rd (F := F) m ρ).expect (kcell (c, none)) 0 = 3 := by
  unfold Schedule.expect Schedule.amountOf
  rw [duties_bar, Finset.sum_congr rfl fun d _ => amount_bar m ρ c d, Finset.sum_const, Finset.card_univ, Fintype.card_fin, smul_eq_mul]
/-- A transfer cell expects a chunk's units. -/
theorem expect_ch : (Rd (F := F) m ρ).expect (kcell (c, some ch)) 0 = N := by
  unfold Schedule.expect Schedule.amountOf; rw [duties_ch, Finset.sum_singleton, amount_ch]
/-- What a signal in direction `d` hands over at a barrier cell. -/
theorem payload_bar (d : Fin 3) : (Rd (F := F) m ρ).payload (kcell (c, none)) 0 d = barPay c d := by
  dsimp only [Rd]; rw [kOf_ksem]
/-- What a transfer hands over at an end. -/
theorem payload_ch (d : Fin 3) : (Rd (F := F) m ρ).payload (kcell (c, some ch)) 0 d = chPay m ρ c ch := by
  dsimp only [Rd]; rw [kOf_ksem]
/-- All a barrier cell's units hand over. -/
theorem rest_bar : bigSep ((Rd (F := F) m ρ).duties (kcell (c, none)) 0 \ ∅) (fun d => (Rd (F := F) m ρ).payload (kcell (c, none)) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
/-- All an end's units hand over. -/
theorem rest_ch : bigSep ((Rd (F := F) m ρ).duties (kcell (c, some ch)) 0 \ ∅) (fun d => (Rd (F := F) m ρ).payload (kcell (c, some ch)) 0 d)
    = chPay m ρ c ch := by
  rw [Finset.sdiff_empty, duties_ch, bigSep_singleton, payload_ch]

end Tables

/-! ## The levels and what a device owes -/

/-- An end's level: sending ends below every other, then the receiving ones in the order they are waited for. -/
def chLev : Ch → ℕ
  | .inl (.xr, _) => 2
  | .inl (.yr, _) => 3
  | .inl (.zr, _) => 3
  | .inr (.yr, _) => 4
  | .inr (.zr, _) => 4
  | _ => 0
/-- A protocol semaphore's level. -/
def klev : Option Ch → ℕ
  | none => 1
  | some ch => chLev ch

def L (g : GSem nD τ sig) : Finset Unit := if g.1.2 = .tc then {()} else ∅
def lv (g : GSem nD τ sig) (_ : Unit) : ℕ := match kOf g.2 with
  | some k => klev k
  | none => 0

/-- A cell that is not a TensorCore's has no level. -/
theorem L_of_ne (g : GSem nD τ sig) (h : g.1.2 ≠ .tc) : L g = ∅ := if_neg h
/-- A TensorCore's cell has a level. -/
theorem L_tc (g : GSem nD τ sig) (h : g.1.2 = .tc) : L g = {()} := if_pos h
/-- The level of a protocol cell is that of its semaphore. -/
theorem lv_kcell (c : Dev nD) (k : Option Ch) : lv (kcell (c, k)) () = klev k := by
  unfold lv; dsimp only; rw [kOf_ksem]

/-- Every cell `O` owes is a TensorCore's, above level `n`. -/
def Above (n : ℕ) (O : CellTallies nD τ sig Unit) : Prop := ∀ (g : GSem nD τ sig) (u : Unit), 0 < O g u → g.1.2 = .tc ∧ n < lv g u

/-- Owing nothing is above every level. -/
theorem Above.zero (n : ℕ) : Above n 0 := fun g u h => absurd h (Nat.lt_irrefl 0)
/-- Two debts above a level are together above it. -/
theorem Above.add {n : ℕ} {O O' : CellTallies nD τ sig Unit} (h : Above n O) (h' : Above n O') : Above n (O + O') := fun g u hp => by
  rw [Pi.add_apply, Finsupp.add_apply] at hp
  by_cases h0 : 0 < O g u
  · exact h g u h0
  · exact h' g u (by omega)
/-- A sum of debts above a level is above it. -/
theorem Above.sum {n : ℕ} {ι : Type} (s : Finset ι) {o : ι → CellTallies nD τ sig Unit} (h : ∀ i, Above n (o i)) : Above n (∑ i ∈ s, o i) := by
  classical
  induction s using Finset.induction_on with
  | empty => rw [Finset.sum_empty]; exact Above.zero n
  | insert a s ha ih => rw [Finset.sum_insert ha]; exact (h a).add ih
/-- A debt at one protocol cell is above every level below the cell's. -/
theorem Above.tally {n : ℕ} (c : Dev nD) (k : Option Ch) (u : ℕ) (h : n < klev k) : Above n (tallyAt (kcell (c, k)) () u) := fun g v hp => by
  obtain ⟨rfl, -⟩ := Pipeline.tallyAt_pos hp
  exact ⟨rfl, by rw [show v = () from rfl, lv_kcell]; exact h⟩
/-- A debt above a level is above every smaller one. -/
theorem Above.mono {n n' : ℕ} {O : CellTallies nD τ sig Unit} (h : Above n O) (hn : n' ≤ n) : Above n' O :=
  fun g u hp => ⟨(h g u hp).1, lt_of_le_of_lt hn (h g u hp).2⟩

omit [FloatOps F] in
/-- A device may wait at a semaphore whose level every cell it owes is above. -/
theorem mayWait (c : Dev nD) (sm : SemLoc sig) (O : CellTallies nD τ sig Unit) (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc _ rfl]; exact Finset.mem_singleton_self _)
    (fun g u hg => by rw [L_tc g (hO g u hg).1]; exact Finset.mem_singleton_self _)
    (fun p hp => by rw [Finset.mem_singleton.mp hp])
    (fun g u hg => (hO g u hg).2)

/-- What device `c` owes for the transfers at an end of kind `k`, chunk by chunk. -/
def o8 (c : Dev nD) (k : K8) (i : Fin 8) : CellTallies nD τ sig Unit := tallyAt (kcell (nb (.inl (k, i)) c, some (.inl (k, i)))) () N
def o4 (c : Dev nD) (k : K4) (i : Fin 4) : CellTallies nD τ sig Unit := tallyAt (kcell (nb (.inr (k, i)) c, some (.inr (k, i)))) () N
/-- What device `c` owes for the signal in direction `d`. -/
def oB (c : Dev nD) (d : Fin 3) : CellTallies nD τ sig Unit := tallyAt (kcell (nb3 d c, none)) () 1

/-- What device `c` owes before the transfers, and at launch. -/
def OT (c : Dev nD) : CellTallies nD τ sig Unit :=
  (((0 + ∑ i, o4 c .zr i) + ∑ i, o4 c .yr i) + ∑ i, (o8 c .zr i + o8 c .yr i)) + ∑ i, o8 c .xr i
def O₀ (c : Dev nD) : CellTallies nD τ sig Unit := ((OT c + oB c 2) + oB c 1) + oB c 0

end Cert.KernelIdeal.Hand
-- ==== Proof.KISteps.lean ====
/-
# The steps of the body

Specifications of the body's steps, in the form: what a step takes, the step, what it leaves; composed by `Tri.seq` and `Tri.loop`.
-/
module

public import proofs.«01_k».proof.Proof.KIProto

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Specifications -/

/-- The program run on device `c`'s TensorCore reaches `Z`. -/
abbrev run (c : Dev nD) {α : Type} (p : P F α) (Z : α → sProp 𝕄) : sProp 𝕄 :=
  wp frame (wpE (defs₀ (F := F)) 𝒱₀ (c : Thread nD τ) none) Set.univ p Z

/-- From `A` the step `f` on device `c` leads to `B`, whatever runs after it. -/
def Tri (c : Dev nD) (A : sProp 𝕄) (f : P F PUnit) (B : sProp 𝕄) : Prop :=
  ∀ (k : PUnit → P F PUnit) (Z : PUnit → sProp 𝕄), A ⊢ iprop((B -∗ run c (k ⟨⟩) Z) -∗ run c (f.bind k) Z)

/-- A step may be given more before it and asked for less after it. -/
theorem Tri.conseq {c : Dev nD} {A A' B B' : sProp 𝕄} {f : P F PUnit} (h : Tri c A f B) (hA : A' ⊢ A) (hB : B ⊢ B') : Tri c A' f B' := fun k Z => by
  iintro HA Hk
  iapply (h k Z) $$ [HA]
  · iapply hA; iexact HA
  iintro HB
  iapply Hk
  iapply hB; iexact HB

/-- What a step does not need stays as it is. -/
theorem Tri.frame {c : Dev nD} {A B : sProp 𝕄} {f : P F PUnit} (h : Tri c A f B) (R : sProp 𝕄) : Tri c iprop(R ∗ A) f iprop(R ∗ B) := fun k Z => by
  iintro ⟨HR, HA⟩ Hk
  iapply (h k Z) $$ HA
  iintro HB
  iapply Hk
  isplitl [HR]; · iexact HR
  iexact HB

/-- Two steps, one after the other. -/
theorem Tri.seq {c : Dev nD} {A B C : sProp 𝕄} {f g : P F PUnit} (h : Tri c A f B) (h' : Tri c B g C) : Tri c A (f.bind fun _ => g) C := fun k Z => by
  rw [show (f.bind fun _ => g).bind k = f.bind fun x => g.bind k from Prog.bind_assoc f (fun _ => g) k]
  iintro HA Hk
  iapply (h (fun _ => g.bind k) Z) $$ HA
  iintro HB
  iapply (h' k Z) $$ HB
  iexact Hk

omit [FloatOps F] in
/-- A conjunction over `n + 1` indices, the first apart. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- What device `c` owes, whatever waits it has recorded. -/
def owesX (c : Dev nD) (O : CellTallies nD τ sig Unit) : sProp 𝕄 := iprop(∃ W : Waits sig Unit, owes (c : Thread nD τ) O W)

/-- A loop whose step `i` takes `Pre i` to `Post i`, keeps `R` and pays `o i`. -/
theorem Tri.loop {c : Dev nD} (lev : ℕ) {R : sProp 𝕄} : ∀ {n : ℕ} {f : Fin n → P F PUnit} {Pre Post : Fin n → sProp 𝕄} {o : Fin n → CellTallies nD τ sig Unit}
    {O : CellTallies nD τ sig Unit}, Above lev O → (∀ i, Above lev (o i)) →
    (∀ i O', Above lev O' → Tri c iprop(R ∗ Pre i ∗ owesX c (O' + o i)) (f i) iprop(R ∗ Post i ∗ owesX c O')) →
    Tri c iprop(R ∗ bigSep Finset.univ Pre ∗ owesX c (O + ∑ i, o i)) (seqFin n f) iprop(R ∗ bigSep Finset.univ Post ∗ owesX c O)
  | 0, f, Pre, Post, o, O, hO, ho, h => fun k Z => by
    rw [Finset.univ_eq_empty, bigSep_empty, bigSep_empty, Finset.sum_empty, add_zero]
    show _ ⊢ iprop(_ -∗ run c (k ⟨⟩) Z)
    iintro H Hk
    iapply Hk; iexact H
  | n + 1, f, Pre, Post, o, O, hO, ho, h => by
    have h0 := h 0 (O + ∑ i : Fin n, o i.succ) (hO.add (Above.sum _ fun i => ho i.succ))
    have ih := Tri.loop lev (f := fun i => f i.succ) (Pre := fun i => Pre i.succ) (Post := fun i => Post i.succ) (o := fun i => o i.succ) hO
      (fun i => ho i.succ) (fun i O' hO' => h i.succ O' hO')
    rw [bigSep_first Pre, bigSep_first Post, Fin.sum_univ_succ, add_comm (o 0), ← add_assoc]
    refine Tri.seq ((h0.frame (bigSep Finset.univ fun i : Fin n => Pre i.succ)).conseq ?_ .rfl)
      ((ih.frame (Post 0)).conseq ?_ ?_)
    · iintro ⟨HR, ⟨H0, HP⟩, HO⟩
      isplitl [HP]; · iexact HP
      isplitl [HR]; · iexact HR
      isplitl [H0]; · iexact H0
      iexact HO
    · iintro ⟨HP, HR, H0, HO⟩
      isplitl [H0]; · iexact H0
      isplitl [HR]; · iexact HR
      isplitl [HP]; · iexact HP
      iexact HO
    · iintro ⟨H0, HR, HP, HO⟩
      isplitl [HR]; · iexact HR
      isplitl [H0 HP]
      · isplitl [H0]; · iexact H0
        iexact HP
      iexact HO

/-- The same where nothing is owed for the steps. -/
theorem Tri.loop' {c : Dev nD} (lev : ℕ) {R : sProp 𝕄} {n : ℕ} {f : Fin n → P F PUnit} {Pre Post : Fin n → sProp 𝕄}
    {O : CellTallies nD τ sig Unit} (hO : Above lev O)
    (h : ∀ i, Tri c iprop(R ∗ Pre i ∗ owesX c O) (f i) iprop(R ∗ Post i ∗ owesX c O)) :
    Tri c iprop(R ∗ bigSep Finset.univ Pre ∗ owesX c O) (seqFin n f) iprop(R ∗ bigSep Finset.univ Post ∗ owesX c O) := by
  induction n with
  | zero =>
    intro k Z
    rw [Finset.univ_eq_empty, bigSep_empty, bigSep_empty]
    show _ ⊢ iprop(_ -∗ run c (k ⟨⟩) Z)
    iintro H Hk
    iapply Hk; iexact H
  | succ n ih =>
    have ih := ih (f := fun i => f i.succ) (Pre := fun i => Pre i.succ) (Post := fun i => Post i.succ) (fun i => h i.succ)
    rw [bigSep_first Pre, bigSep_first Post]
    refine Tri.seq (((h 0).frame (bigSep Finset.univ fun i : Fin n => Pre i.succ)).conseq ?_ .rfl)
      ((ih.frame (Post 0)).conseq ?_ ?_)
    · iintro ⟨HR, ⟨H0, HP⟩, HO⟩
      isplitl [HP]; · iexact HP
      isplitl [HR]; · iexact HR
      isplitl [H0]; · iexact H0
      iexact HO
    · iintro ⟨HP, HR, H0, HO⟩
      isplitl [H0]; · iexact H0
      isplitl [HR]; · iexact HR
      isplitl [HP]; · iexact HP
      iexact HO
    · iintro ⟨H0, HR, HP, HO⟩
      isplitl [HR]; · iexact HR
      isplitl [H0 HP]
      · isplitl [H0]; · iexact H0
        iexact HP
      iexact HO

/-! ## What is known throughout -/

variable (m : (ℓ : Loc nD τ sig) → Buf (Elt F) ℓ) (ρ : Dev nD → PrngReg) (K : Dev nD × Option Ch → ℕ)

/-- Every cell's invariant, that every cell's first round is open, and the levels. -/
def env : sProp 𝕄 :=
  iprop((bigSep Finset.univ fun ck => cellInv ER (Rd m ρ) (K ck) (kcell ck)) ∗ (bigSep Finset.univ fun ck => reached ER (kcell ck) 0) ∗ levAts L lv)

instance env_persistent : BI.Persistent (env m ρ K) := by unfold env; infer_instance

/-- The environment has every cell's invariant. -/
theorem env_inv (ck : Dev nD × Option Ch) : env m ρ K ⊢ cellInv ER (Rd m ρ) (K ck) (kcell ck) := by
  unfold env
  iintro ⟨H, -, -⟩
  iapply (show (bigSep Finset.univ fun ck => (cellInv ER (Rd m ρ) (K ck) (kcell ck) : sProp 𝕄)) ⊢ cellInv ER (Rd m ρ) (K ck) (kcell ck)
    from BI.bigSep_elim (Finset.mem_univ ck))
  iexact H
/-- The environment has that every cell's first round is open. -/
theorem env_reached (ck : Dev nD × Option Ch) : env m ρ K ⊢ reached ER (kcell ck) 0 := by
  unfold env
  iintro ⟨-, H, -⟩
  iapply (show (bigSep Finset.univ fun ck => (reached ER (kcell ck) 0 : sProp 𝕄)) ⊢ reached ER (kcell ck) 0 from BI.bigSep_elim (Finset.mem_univ ck))
  iexact H
/-- The environment has the levels. -/
theorem env_lev : env m ρ K ⊢ levAts L lv := by unfold env; iintro ⟨-, -, H⟩; iexact H

/-- The right to pay an end's duty, held by the device that raises it. -/
def tok (c : Dev nD) (ch : Ch) : sProp 𝕄 := dutyTok ER (kcell (nb ch c, some ch)) 0 0
/-- The units that will arrive at device `c`'s end. -/
def crd (c : Dev nD) (ch : Ch) : sProp 𝕄 := cred (tallyAt (kcell (c, some ch)) () N)
/-- Device `c` has taken `r` rounds of its end. -/
def pos (c : Dev nD) (ch : Ch) (r : ℕ) : sProp 𝕄 := atPos ER (kcell (c, some ch)) r ∅ 0

/-! ## Sending and waiting -/

/-- A transfer cell's one duty is one of its duties. -/
theorem duty_ch (x : Dev nD × Ch) : (0 : Fin 3) ∈ (Rd (F := F) m ρ).duties (kcell (x.1, some x.2)) 0 := by
  rw [duties_ch]; exact Finset.mem_singleton_self _

/-- A chunk sent from one end to another, its source and destination handed to the two ends. -/
theorem send_step (c c' n : Dev nD) (hn : n = c') (chS chR : Ch) (hnS : nb chS c = c) (hnR : nb chR c = c')
    {src dst : Memref sig .tc .vmem S32x1024 .f32} {hsc : dst.view.ref.isScScratch = false}
    {hsrc : src.view.WordExact} {hdst : dst.view.WordExact}
    {hsem : DmaTarget.Typed .vmem (.dma (chSem chR)) (.remote (Dev.tc n : Thread nD τ) dst (.dma (chSem chS)) hsc)}
    {q : PosShare TreeShare} (fs : Buf (Elt F) (src.view.loc (c : Thread nD τ))) (fd : Buf (Elt F) (dst.view.loc (c' : Thread nD τ)))
    (O : CellTallies nD τ sig Unit)
    (hpay₁ : (src.view.loc (c : Thread nD τ) ↦[src.view.set]{q} fs : sProp 𝕄) ⊢ chPay m ρ c chS)
    (hpay₂ : (dst.view.loc (c' : Thread nD τ) ↦[dst.view.set]{fullShare} dst.view.write (Elt F) fd (src.view.read (Elt F) fs) Finset.univ : sProp 𝕄)
      ⊢ chPay m ρ c' chR) :
    Tri c iprop(env m ρ K ∗ (src.view.loc (c : Thread nD τ) ↦[src.view.set]{q} fs) ∗ (dst.view.loc (c' : Thread nD τ) ↦[dst.view.set]{fullShare} fd)
        ∗ tok c chS ∗ tok c chR ∗ owesX c (O + tallyAt (kcell (c', some chR)) () N))
      (Prog.lift (.enqueueDma src (.remote (Dev.tc n) dst (.dma (chSem chS)) hsc) (.dma (chSem chR)) hsrc hdst hsem))
      iprop(env m ρ K ∗ crd c chS ∗ owesX c O) := fun k Z => by
  subst hn
  unfold tok owesX crd
  rw [hnS, hnR]
  show _ ⊢ iprop(_ -∗ run c (.op (.enqueueDma src (.remote (Dev.tc n) dst (.dma (chSem chS)) hsc) (.dma (chSem chR)) hsrc hdst hsem) k) Z)
  iintro ⟨#He, Hs, Hd, HtS, HtR, ⟨%W, HO⟩⟩ Hk
  ihave HiS := (env_inv m ρ K (c, some chS)) $$ He
  ihave HiR := (env_inv m ρ K (n, some chR)) $$ He
  ihave HrS := (env_reached m ρ K (c, some chS)) $$ He
  ihave HrR := (env_reached m ρ K (n, some chR)) $$ He
  iapply (Rounds.wp_send_pointsTo 𝒱₀ ER (Rd m ρ) (c : Thread nD τ) none (κ₁ := K (c, some chS)) (κ₂ := K (n, some chR))
    (r₁ := 0) (r₂ := 0) (d₁ := 0) (d₂ := 0) (fd := fd) (fs := fs) (q := q)
    (duty_ch m ρ (c, chS)) (duty_ch m ρ (n, chR))
    () () N rfl (amount_ch m ρ c chS 0) (amount_ch m ρ n chR 0) O rfl (W := W)
    (hpay₁.trans (Entails.of_eq (payload_ch m ρ c chS 0).symm)) (hpay₂.trans (Entails.of_eq (payload_ch m ρ n chR 0).symm))) $$ [HiS HiR Hs Hd HO HtS HrS HtR HrR]
  · isplitl [HiS]; · iexact HiS
    isplitl [HiR]; · iexact HiR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  iapply Hk
  isplitr; · iexact He
  isplitl [Hc]; · iexact Hc
  iexists W; iexact HO

/-- A wait for the chunk of an end. -/
theorem wait_step (c : Dev nD) (ch : Ch) {s s' : Memref sig .tc .vmem S32x1024 .f32} {h : s.view.WordExact} {h' : s'.view.WordExact}
    (O : CellTallies nD τ sig Unit) (hO : Above (chLev ch) O) :
    Tri c iprop(env m ρ K ∗ (pos c ch 0 ∗ crd c ch) ∗ owesX c O) (dWait (chSem ch) s s' h h')
      iprop(env m ρ K ∗ (pos c ch 1 ∗ chPay m ρ c ch) ∗ owesX c O) := fun k Z => by
  unfold pos crd owesX
  show _ ⊢ iprop(_ -∗ run c (.op (.waitDma2 (chSem ch) s s' h h') k) Z)
  iintro ⟨#He, ⟨Hp, Hc⟩, ⟨%W, HO⟩⟩ Hk
  ihave Hi := (env_inv m ρ K (c, some ch)) $$ He
  ihave HL := (env_lev m ρ K) $$ He
  ihave HM := (mayWait (F := F) c (ksem (some ch)) O (by rw [show lv ((c : Thread nD τ), ksem (some ch)) () = chLev ch from lv_kcell c (some ch)]; exact hO)) $$ HL
  iapply (Rounds.wp_wait_rest_token 𝒱₀ ER (Rd m ρ) (c : Thread nD τ) none (κ := K (c, some ch))
    (wpE_waitDma2_eq 𝒱₀ (c : Thread nD τ) none Set.univ) (Set.mem_univ _) () (O := O) (W := W) (R := 0) (m := 0) (T := ∅)
    (by rw [Nat.zero_add]; exact (expect_ch m ρ c ch).symm)) $$ [Hi Hc HO HM Hp]
  · isplitl [Hi]; · iexact Hi
    isplitl [Hc]; · iexact Hc
    isplitl [HO]; · iexact HO
    isplitl [HM]; · iexact HM
    iexact Hp
  iintro ⟨HO, Hp, -, Hpay⟩
  ihave Hpay := (show (bigSep ((Rd (F := F) m ρ).duties ((c : Thread nD τ), SemLoc.dma (chSem ch)) 0 \ ∅)
    fun d => (Rd (F := F) m ρ).payload ((c : Thread nD τ), SemLoc.dma (chSem ch)) 0 d) ⊢ chPay m ρ c ch from Entails.of_eq (rest_ch m ρ c ch)) $$ Hpay
  iapply Hk
  isplitr; · iexact He
  isplitl [Hp Hpay]
  · isplitl [Hp]; · iexact Hp
    iexact Hpay
  iexists _; iexact HO

end Cert.KernelIdeal.Hand
-- ==== Proof.KISends.lean ====
/-
# The phases of the body

Each loop of the body, from what it takes to what it leaves.
-/
module

public import proofs.«01_k».proof.Proof.KISteps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

/-! ## The sends -/

/-- Chunk `i` of the own summand sent along `x`. -/
theorem xSend_step (c : Dev nD) (i : Fin 8) (O : CellTallies nD τ sig Unit) :
    Tri c iprop(env m ρ K ∗ (pPart m ρ c i ∗ anyC (F := F) (xn c) i ∗ tok (F := F) c (.inl (.xs, i)) ∗ tok (F := F) c (.inl (.xr, i)))
        ∗ owesX c (O + o8 c .xr i))
      (xSend c i) iprop(env m ρ K ∗ crd (F := F) c (.inl (.xs, i)) ∗ owesX c O) := fun k Z => by
  unfold pPart anyC ownsSatTc ownsSat
  iintro ⟨He, ⟨Hp, ⟨%fd, -, Hd⟩, HtS, HtR⟩, HO⟩
  iapply (send_step m ρ K c (xn c) (xd c) (xd_eq c) (.inl (.xs, i)) (.inl (.xr, i)) rfl rfl (src := pSl c i) (dst := cSl i)
    (pstg m ρ c) fd O .rfl ?_ k Z)
  · refine (owns_intro (xn c : Thread nD τ) (cSl i) fullShare _).trans (Entails.of_eq ?_)
    show _ = hasC m ρ (xn c) i
    unfold hasC ownsTc
    rw [View.read_write_univ, xn_xn]; rfl
  isplitl [He]; · iexact He
  isplitl [Hp]; · iexact Hp
  isplitl [Hd]; · iexact Hd
  isplitl [HtS]; · iexact HtS
  isplitl [HtR]; · iexact HtR
  iexact HO

/-- Chunk `j` of device `e`'s rows, held by `c`, sent on to `c'`. -/
theorem oSend_step (c c' n e : Dev nD) (hn : n = c') (j : Fin 8) (chS chR : Ch) (hnS : nb chS c = c) (hnR : nb chR c = c') {q : PosShare TreeShare}
    (hS : chPay m ρ c chS = hasO m ρ c e j q) (hR : chPay m ρ c' chR = hasO m ρ c' e j fullShare)
    {mm : Memref sig .tc .vmem S32x1024 .f32} (hmm : mm = oC (bk e) j) {hw : mm.view.WordExact} {hs : mm.view.ref.isScScratch = false}
    (O : CellTallies nD τ sig Unit) :
    Tri c iprop(env m ρ K ∗ (hasO m ρ c e j q ∗ anyO (F := F) c' (bk e) j ∗ tok (F := F) c chS ∗ tok (F := F) c chR)
        ∗ owesX c (O + tallyAt (kcell (c', some chR)) () N))
      (oSend n mm hw hs (chSem chS) (chSem chR)) iprop(env m ρ K ∗ crd (F := F) c chS ∗ owesX c O) := fun k Z => by
  subst hmm
  have key : ∀ (fs : Buf (Elt F) ((oC (bk e) j).view.loc (c : Thread nD τ))) (fd : Buf (Elt F) ((oC (bk e) j).view.loc (c' : Thread nD τ))),
      (oC (bk e) j).view.read (Elt F) fs = V m ρ e j → _ := fun fs fd hf =>
    send_step m ρ K c c' n hn chS chR hnS hnR (src := oC (bk e) j) (dst := oC (bk e) j) (hsc := hs) (hsrc := hw) (hdst := hw)
      (hsem := ⟨⟨rfl, Or.inl rfl⟩, trivial⟩) (q := q) fs fd O
      ((owns_intro (c : Thread nD τ) (oC (bk e) j) q fs).trans (Entails.of_eq (by rw [hS, hf]; rfl)))
      ((owns_intro (c' : Thread nD τ) (oC (bk e) j) fullShare _).trans (Entails.of_eq (by rw [hR, View.read_write_univ, hf]; rfl)))
  unfold anyO ownsSatTc ownsSat
  rw [show hasO m ρ c e j q = owns (c : Thread nD τ) (oC (bk e) j) q (V m ρ e j) from rfl]
  unfold owns
  iintro ⟨He, ⟨⟨%fs, %hf, Hp⟩, ⟨%fd, -, Hd⟩, HtS, HtR⟩, HO⟩
  iapply (key fs fd hf k Z)
  isplitl [He]; · iexact He
  isplitl [Hp]; · iexact Hp
  isplitl [Hd]; · iexact Hd
  isplitl [HtS]; · iexact HtS
  isplitl [HtR]; · iexact HtR
  iexact HO

/-- Chunk `i` just worked out sent along `y` and `z`, half a share to each. -/
theorem share_step (c : Dev nD) (i : Fin 8) (O : CellTallies nD τ sig Unit) :
    Tri c iprop(env m ρ K ∗ (hasO m ρ c c i fullShare ∗ anyO (F := F) (yn c) (bk c) i ∗ anyO (F := F) (zn c) (bk c) i
          ∗ tok (F := F) c (.inl (.ys, i)) ∗ tok (F := F) c (.inl (.yr, i)) ∗ tok (F := F) c (.inl (.zs, i)) ∗ tok (F := F) c (.inl (.zr, i)))
        ∗ owesX c (O + (o8 c .zr i + o8 c .yr i)))
      (share c i) iprop(env m ρ K ∗ (crd (F := F) c (.inl (.ys, i)) ∗ crd (F := F) c (.inl (.zs, i))) ∗ owesX c O) := by
  have hy := oSend_step m ρ K c (yn c) (yd c) c (yd_eq c) i (.inl (.ys, i)) (.inl (.yr, i)) rfl rfl (q := fullShare.left) rfl
    (by show hasO m ρ (yn c) (yn (yn c)) i fullShare = _; rw [yn_yn]) (oSl_eq c i) (hw := View.wordExact_bits rfl) (hs := rfl) (O + o8 c .zr i)
  have hz := oSend_step m ρ K c (zn c) (zd c) c (zd_eq c) i (.inl (.zs, i)) (.inl (.zr, i)) rfl rfl (q := fullShare.right) rfl
    (by show hasO m ρ (zn c) (zn (zn c)) i fullShare = _; rw [zn_zn]) (oSl_eq c i) (hw := View.wordExact_bits rfl) (hs := rfl) O
  refine Tri.seq ((hy.frame iprop(hasO m ρ c c i fullShare.right ∗ anyO (F := F) (zn c) (bk c) i ∗ tok (F := F) c (.inl (.zs, i)) ∗ tok (F := F) c (.inl (.zr, i)))).conseq ?_ .rfl)
    ((hz.frame (crd (F := F) c (.inl (.ys, i)))).conseq ?_ ?_)
  · rw [show O + (o8 c .zr i + o8 c .yr i) = O + o8 c .zr i + tallyAt (kcell (yn c, some (.inl (.yr, i)))) () N from (add_assoc _ _ _).symm]
    iintro ⟨He, ⟨Ho, Hy, Hz, Hys, Hyr, Hzs, Hzr⟩, HO⟩
    ihave ⟨Hol, Hor⟩ := (show hasO m ρ c c i fullShare ⊢ iprop(hasO m ρ c c i fullShare.left ∗ hasO m ρ c c i fullShare.right)
      from (owns_halves (c : Thread nD τ) (oC (bk c) i) fullShare (V m ρ c i)).1) $$ Ho
    isplitl [Hor Hz Hzs Hzr]
    · isplitl [Hor]; · iexact Hor
      isplitl [Hz]; · iexact Hz
      isplitl [Hzs]; · iexact Hzs
      iexact Hzr
    isplitl [He]; · iexact He
    isplitl [Hol Hy Hys Hyr]
    · isplitl [Hol]; · iexact Hol
      isplitl [Hy]; · iexact Hy
      isplitl [Hys]; · iexact Hys
      iexact Hyr
    iexact HO
  · iintro ⟨⟨Hor, Hz, Hzs, Hzr⟩, He, Hc, HO⟩
    isplitl [Hc]; · iexact Hc
    isplitl [He]; · iexact He
    isplitl [Hor Hz Hzs Hzr]
    · isplitl [Hor]; · iexact Hor
      isplitl [Hz]; · iexact Hz
      isplitl [Hzs]; · iexact Hzs
      iexact Hzr
    iexact HO
  · iintro ⟨Hc, He, Hd, HO⟩
    isplitl [He]; · iexact He
    isplitl [Hc Hd]
    · isplitl [Hc]; · iexact Hc
      iexact Hd
    iexact HO

/-- A chunk received at an end and passed on from another. -/
theorem pass_step (c c' n e : Dev nD) (hn : n = c') (j : Fin 8) (chA chS chR : Ch) (hA : chPay m ρ c chA = hasO m ρ c e j fullShare)
    (hnS : nb chS c = c) (hnR : nb chR c = c')
    (hS : chPay m ρ c chS = hasO m ρ c e j fullShare) (hR : chPay m ρ c' chR = hasO m ρ c' e j fullShare)
    {mm : Memref sig .tc .vmem S32x1024 .f32} (hmm : mm = oC (bk e) j) {hw : mm.view.WordExact} {hs : mm.view.ref.isScScratch = false}
    {s s' : Memref sig .tc .vmem S32x1024 .f32} {h : s.view.WordExact} {h' : s'.view.WordExact}
    (O : CellTallies nD τ sig Unit) (hO : Above (chLev chA) (O + tallyAt (kcell (c', some chR)) () N)) :
    Tri c iprop(env m ρ K ∗ ((pos (F := F) c chA 0 ∗ crd (F := F) c chA) ∗ anyO (F := F) c' (bk e) j ∗ tok (F := F) c chS ∗ tok (F := F) c chR)
        ∗ owesX c (O + tallyAt (kcell (c', some chR)) () N))
      ((dWait (chSem chA) s s' h h').bind fun _ => oSend n mm hw hs (chSem chS) (chSem chR))
      iprop(env m ρ K ∗ (pos (F := F) c chA 1 ∗ crd (F := F) c chS) ∗ owesX c O) := by
  have hw' := wait_step m ρ K c chA (s := s) (s' := s') (h := h) (h' := h') _ hO
  have hs' := oSend_step m ρ K c c' n e hn j chS chR hnS hnR (q := fullShare) hS hR hmm (hw := hw) (hs := hs) O
  rw [hA] at hw'
  refine Tri.seq ((hw'.frame iprop(anyO (F := F) c' (bk e) j ∗ tok (F := F) c chS ∗ tok (F := F) c chR)).conseq ?_ .rfl)
    ((hs'.frame (pos (F := F) c chA 1)).conseq ?_ ?_)
  · iintro ⟨He, ⟨Hw, Hr⟩, HO⟩
    isplitl [Hr]; · iexact Hr
    isplitl [He]; · iexact He
    isplitl [Hw]; · iexact Hw
    iexact HO
  · iintro ⟨⟨Ha, HtS, HtR⟩, He, ⟨Hp, Ho⟩, HO⟩
    isplitl [Hp]; · iexact Hp
    isplitl [He]; · iexact He
    isplitl [Ho Ha HtS HtR]
    · isplitl [Ho]; · iexact Ho
      isplitl [Ha]; · iexact Ha
      isplitl [HtS]; · iexact HtS
      iexact HtR
    iexact HO
  · iintro ⟨Hp, He, Hc, HO⟩
    isplitl [He]; · iexact He
    isplitl [Hp Hc]
    · isplitl [Hp]; · iexact Hp
      iexact Hc
    iexact HO

/-- Passing on along `y`: once the chunk from `z` is there, it is sent to the neighbour along `y`. -/
theorem passY_step (c : Dev nD) (i : Fin 4) (O : CellTallies nD τ sig Unit) (hO : Above 3 O) :
    Tri c iprop(env m ρ K ∗ ((pos (F := F) c (.inl (.zr, lo i)) 0 ∗ crd (F := F) c (.inl (.zr, lo i))) ∗ anyO (F := F) (yn c) (bk (zn c)) (lo i)
          ∗ tok (F := F) c (.inr (.ys, i)) ∗ tok (F := F) c (.inr (.yr, i))) ∗ owesX c (O + o4 c .yr i))
      (passY c i) iprop(env m ρ K ∗ (pos (F := F) c (.inl (.zr, lo i)) 1 ∗ crd (F := F) c (.inr (.ys, i))) ∗ owesX c O) :=
  pass_step m ρ K c (yn c) (yd c) (zn c) (yd_eq c) (lo i) (.inl (.zr, lo i)) (.inr (.ys, i)) (.inr (.yr, i)) rfl rfl rfl rfl
    (by show hasO m ρ (yn c) (dg (yn c)) (lo i) fullShare = _; rw [dg_yn]) (oSlZ_eq c i) O (hO.add (Above.tally _ _ _ (show 3 < 4 by decide)))

/-- Passing on along `z`: once the chunk from `y` is there, it is sent to the neighbour along `z`. -/
theorem passZ_step (c : Dev nD) (i : Fin 4) (O : CellTallies nD τ sig Unit) (hO : Above 3 O) :
    Tri c iprop(env m ρ K ∗ ((pos (F := F) c (.inl (.yr, hi i)) 0 ∗ crd (F := F) c (.inl (.yr, hi i))) ∗ anyO (F := F) (zn c) (bk (yn c)) (hi i)
          ∗ tok (F := F) c (.inr (.zs, i)) ∗ tok (F := F) c (.inr (.zr, i))) ∗ owesX c (O + o4 c .zr i))
      (passZ c i) iprop(env m ρ K ∗ (pos (F := F) c (.inl (.yr, hi i)) 1 ∗ crd (F := F) c (.inr (.zs, i))) ∗ owesX c O) :=
  pass_step m ρ K c (zn c) (zd c) (yn c) (zd_eq c) (hi i) (.inl (.yr, hi i)) (.inr (.zs, i)) (.inr (.zr, i)) rfl rfl rfl rfl
    (by show hasO m ρ (zn c) (dg (zn c)) (hi i) fullShare = _; rw [dg_zn]) (oSlY_eq c i) O (hO.add (Above.tally _ _ _ (show 3 < 4 by decide)))

end Cert.KernelIdeal.Hand
-- ==== Proof.KIWork.lean ====
/-
# A chunk worked out

The loads of the four operands, the arithmetic and the store, from what they take to what they leave.
-/
module

public import proofs.«01_k».proof.Proof.KISends

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

/-! ## Working a chunk out -/

/-- The operands in device `c`'s staging: its summand (half a share), the residual and the scale. -/
def stages (c : Dev nD) : sProp 𝕄 :=
  iprop((pM.view.loc (c : Thread nD τ) ↦{fullShare.left} pstg m ρ c) ∗ (rM.view.loc (c : Thread nD τ) ↦{fullShare} rstg m ρ c)
    ∗ (gM.view.loc (c : Thread nD τ) ↦{fullShare} gstg m ρ c))

/-- The loads, the arithmetic and the store, once the other summand's chunk is there. -/
def calcRows (d : Dev nD) (i : Fin 8) : P F PUnit :=
  .op (.load pM (pR d i).toLoadRect (View.loadsAt_vmem h_S1x32x1024)) fun vp =>
  .op (.load cM (cR i).toLoadRect (View.loadsAt_vmem h_S32x1024)) fun vc =>
  .op (.load rM (rR d i).toLoadRect (View.loadsAt_vmem h_S32x1024)) fun vr =>
  .op (.load gM gR.toLoadRect (View.loadsAt_vmem h_S1024)) fun vg =>
  .op (.load oM (rR d i).toLoadRect (View.loadsAt_vmem h_S32x1024)) fun _ =>
  .op (.store oM (rR d i) (chunkPay vp vc vr vg) Finset.univ (View.stores_vmem_bits_univ h_S32x1024 rfl) (.inl rfl)) .ret

/-- The work on a chunk is a wait for the other summand's chunk and then the arithmetic. -/
theorem work_eq (d : Dev nD) (i : Fin 8) : work (F := F) d i
    = (dWait (at8 cc0_scratch2 i) (pSl d i) (cSl i) ((View.wordExact_bits rfl).reshape _ _) (View.wordExact_bits rfl)).bind fun _ => calcRows d i := rfl

/-- The loads, the arithmetic and the store, with what runs after them. -/
theorem calcRows_bind (d : Dev nD) (i : Fin 8) (k : PUnit → P F PUnit) : (calcRows (F := F) d i).bind k =
  .op (.load pM (pR d i).toLoadRect (View.loadsAt_vmem h_S1x32x1024)) fun vp =>
  .op (.load cM (cR i).toLoadRect (View.loadsAt_vmem h_S32x1024)) fun vc =>
  .op (.load rM (rR d i).toLoadRect (View.loadsAt_vmem h_S32x1024)) fun vr =>
  .op (.load gM gR.toLoadRect (View.loadsAt_vmem h_S1024)) fun vg =>
  .op (.load oM (rR d i).toLoadRect (View.loadsAt_vmem h_S32x1024)) fun _ =>
  .op (.store oM (rR d i) (chunkPay vp vc vr vg) Finset.univ (View.stores_vmem_bits_univ h_S32x1024 rfl) (.inl rfl)) k := rfl

/-- Chunk `i` of the device's own block, as the loads and the store address it. -/
abbrev oW (c : Dev nD) (i : Fin 8) : Memref sig .tc .vmem S32x1024 .f32 := oM.slice (rR c i) (fun _ => rfl)
/-- Chunk `i` of the device's own block is the slice that the store addresses. -/
theorem oW_eq (c : Dev nD) (i : Fin 8) : oC (bk c) i = oW c i := oslice_congr (off3_row c i).symm _ _

/-- The rows stored at the chunk's place are the chunk's contents. -/
theorem stored (c : Dev nD) (i : Fin 8) (fo : Buf (Elt F) (oM.view.loc (c : Thread nD τ))) (w : FVec F S32x1024 .f32) (h : w = V m ρ c i) :
    ((oM.access (rR c i)).loc (c : Thread nD τ) ↦[(oW c i).view.set]{fullShare} (oM.access (rR c i)).write (Elt F) fo w Finset.univ : sProp 𝕄)
      ⊢ hasO m ρ c c i fullShare := by
  subst h
  refine (owns_intro (c : Thread nD τ) (oW c i) fullShare _).trans (Entails.of_eq ?_)
  show _ = owns (c : Thread nD τ) (oC (bk c) i) fullShare (V m ρ c i)
  rw [oW_eq]
  exact congrArg _ (View.read_write_univ (v := (oW c i).view) fo (V m ρ c i))

/-- The arithmetic on a chunk leaves the worked-out rows in the device's own block. -/
theorem calcRows_step (c : Dev nD) (i : Fin 8) :
    Tri c iprop(stages m ρ c ∗ hasC m ρ c i ∗ anyO (F := F) c (bk c) i)
      (calcRows c i) iprop(stages m ρ c ∗ hasC m ρ c i ∗ hasO m ρ c c i fullShare) := fun k Z => by
  rw [calcRows_bind]
  unfold stages
  rw [show hasC m ρ c i = owns (c : Thread nD τ) (cSl i) fullShare (xRows m ρ (xn c) i) from rfl,
    show anyO (F := F) c (bk c) i = ownsSat (c : Thread nD τ) (oW c i) fullShare (fun _ => True) by rw [← oW_eq]; rfl]
  unfold owns ownsSat
  iintro ⟨⟨Hp, Hr, Hg⟩, ⟨%fc, %hc, Hc⟩, ⟨%fo, -, Ho⟩⟩ Hk
  iapply (wp_load 𝒱₀ (c : Thread nD τ) none Set.univ (m := pM) (Finset.subset_univ _)) $$ Hp
  iintro Hp
  iapply (wp_load 𝒱₀ (c : Thread nD τ) none Set.univ (m := cM) (S := (cSl i).view.set) (by rw [View.set_slice]; exact subset_rfl)) $$ Hc
  iintro Hc
  iapply (wp_load 𝒱₀ (c : Thread nD τ) none Set.univ (m := rM) (Finset.subset_univ _)) $$ Hr
  iintro Hr
  iapply (wp_load 𝒱₀ (c : Thread nD τ) none Set.univ (m := gM) (Finset.subset_univ _)) $$ Hg
  iintro Hg
  iapply (wp_load 𝒱₀ (c : Thread nD τ) none Set.univ (m := oM) (S := (oW c i).view.set) (by rw [View.set_slice]; exact subset_rfl)) $$ Ho
  iintro Ho
  iapply (wp_store 𝒱₀ (c : Thread nD τ) none Set.univ (m := oM) (r := rR c i) (Mk := Finset.univ) (S := (oW c i).view.set) subset_rfl) $$ Ho
  iintro Ho
  iapply Hk
  isplitl [Hp Hr Hg]
  · isplitl [Hp]; · iexact Hp
    isplitl [Hr]; · iexact Hr
    iexact Hg
  isplitl [Hc]
  · iexists fc
    isplitr
    · ipureintro; exact hc
    iexact Hc
  have hc' : cM.view.readAt (Elt F) (cR i).toLoadRect fc = xRows m ρ (xn c) i := hc
  iapply (stored m ρ c i fo (chunkPay (pM.view.readAt (Elt F) (pR c i).toLoadRect (pstg m ρ c)) (cM.view.readAt (Elt F) (cR i).toLoadRect fc)
    (rM.view.readAt (Elt F) (rR c i).toLoadRect (rstg m ρ c)) (gM.view.readAt (Elt F) gR.toLoadRect (gstg m ρ c))) (by rw [hc']; rfl)) $$ Ho

/-- The work on a chunk: it waits for the neighbour's rows and leaves the chunk worked out. -/
theorem work_step (c : Dev nD) (i : Fin 8) (O : CellTallies nD τ sig Unit) (hO : Above 2 O) :
    Tri c iprop((env m ρ K ∗ stages m ρ c) ∗ ((pos (F := F) c (.inl (.xr, i)) 0 ∗ crd (F := F) c (.inl (.xr, i))) ∗ anyO (F := F) c (bk c) i) ∗ owesX c O)
      (work c i)
      iprop((env m ρ K ∗ stages m ρ c) ∗ ((pos (F := F) c (.inl (.xr, i)) 1 ∗ hasC m ρ c i) ∗ hasO m ρ c c i fullShare) ∗ owesX c O) := by
  have hw : Tri c _ _ iprop(env m ρ K ∗ (pos (F := F) c (.inl (.xr, i)) 1 ∗ hasC m ρ c i) ∗ owesX c O) :=
    wait_step m ρ K c (.inl (.xr, i)) (s := pSl c i) (s' := cSl i) (h := (View.wordExact_bits rfl).reshape _ _)
    (h' := View.wordExact_bits rfl) O hO
  rw [work_eq]
  refine Tri.seq ((hw.frame iprop(stages m ρ c ∗ anyO (F := F) c (bk c) i)).conseq ?_ .rfl)
    (((calcRows_step m ρ c i).frame iprop(env m ρ K ∗ pos (F := F) c (.inl (.xr, i)) 1 ∗ owesX c O)).conseq ?_ ?_)
  · iintro ⟨⟨He, Hs⟩, ⟨Hw, Ha⟩, HO⟩
    isplitl [Hs Ha]
    · isplitl [Hs]; · iexact Hs
      iexact Ha
    isplitl [He]; · iexact He
    isplitl [Hw]; · iexact Hw
    iexact HO
  · iintro ⟨⟨Hs, Ha⟩, He, ⟨Hp, Hc⟩, HO⟩
    isplitl [He Hp HO]
    · isplitl [He]; · iexact He
      isplitl [Hp]; · iexact Hp
      iexact HO
    isplitl [Hs]; · iexact Hs
    isplitl [Hc]; · iexact Hc
    iexact Ha
  · iintro ⟨⟨He, Hp, HO⟩, Hs, Hc, Ho⟩
    isplitl [He Hs]
    · isplitl [He]; · iexact He
      iexact Hs
    isplitl [Hp Hc Ho]
    · isplitl [Hp Hc]
      · isplitl [Hp]; · iexact Hp
        iexact Hc
      iexact Ho
    iexact HO

end Cert.KernelIdeal.Hand
-- ==== Proof.KITalk.lean ====
/-
# The transfers

The body after its handshake, from what it takes to what it leaves: the loops one after the other.
-/
module

public import proofs.«01_k».proof.Proof.KIWork

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

/-! ## Conjunctions over the ends -/

omit [FloatOps F] in
/-- A conjunction over eight chunks: the first four and the last four. -/
theorem bigSep_half (Φ : Fin 8 → sProp 𝕄) :
    bigSep Finset.univ Φ = iprop((bigSep Finset.univ fun i : Fin 4 => Φ (lo i)) ∗ bigSep Finset.univ fun i : Fin 4 => Φ (hi i)) := by
  rw [BI.bigSep_univ_equiv (finSumFinEquiv : Fin 4 ⊕ Fin 4 ≃ Fin 8) Φ, BI.bigSep_univ_sum]
  rfl

omit [FloatOps F] in
/-- A conjunction over the ends, kind by kind. -/
theorem bigSep_ch (Φ : Ch → sProp 𝕄) : bigSep Finset.univ Φ =
    iprop(((bigSep Finset.univ fun i => Φ (.inl (.xs, i))) ∗ (bigSep Finset.univ fun i => Φ (.inl (.xr, i)))
      ∗ (bigSep Finset.univ fun i => Φ (.inl (.ys, i))) ∗ (bigSep Finset.univ fun i => Φ (.inl (.yr, i)))
      ∗ (bigSep Finset.univ fun i => Φ (.inl (.zs, i))) ∗ (bigSep Finset.univ fun i => Φ (.inl (.zr, i))))
      ∗ (bigSep Finset.univ fun i => Φ (.inr (.ys, i))) ∗ (bigSep Finset.univ fun i => Φ (.inr (.yr, i)))
      ∗ (bigSep Finset.univ fun i => Φ (.inr (.zs, i))) ∗ bigSep Finset.univ fun i => Φ (.inr (.zr, i))) := by
  rw [BI.bigSep_univ_sum, BI.bigSep_univ_prod, BI.bigSep_univ_prod, bigSep_univ_eq_bigSepL [K8.xs, .xr, .ys, .yr, .zs, .zr] (by decide) (by decide),
    bigSep_univ_eq_bigSepL [K4.ys, .yr, .zs, .zr] (by decide) (by decide)]
  simp only [bigSepL_cons_cons, bigSepL_singleton]
  rfl

/-! ## Composing -/

/-- Two steps side by side: what the second takes is untouched by the first. -/
theorem Tri.par {c : Dev nD} {R A A' B B' W W' W'' : sProp 𝕄} {f g : P F PUnit} (h : Tri c iprop(R ∗ A ∗ W) f iprop(R ∗ A' ∗ W'))
    (h' : Tri c iprop(R ∗ B ∗ W') g iprop(R ∗ B' ∗ W'')) : Tri c iprop(R ∗ (A ∗ B) ∗ W) (f.bind fun _ => g) iprop(R ∗ (A' ∗ B') ∗ W'') := by
  refine Tri.seq ((h.frame B).conseq ?_ .rfl) ((h'.frame A').conseq ?_ ?_)
  · iintro ⟨HR, ⟨HA, HB⟩, HW⟩
    isplitl [HB]; · iexact HB
    isplitl [HR]; · iexact HR
    isplitl [HA]; · iexact HA
    iexact HW
  · iintro ⟨HB, HR, HA, HW⟩
    isplitl [HA]; · iexact HA
    isplitl [HR]; · iexact HR
    isplitl [HB]; · iexact HB
    iexact HW
  · iintro ⟨HA, HR, HB, HW⟩
    isplitl [HR]; · iexact HR
    isplitl [HA HB]
    · isplitl [HA]; · iexact HA
      iexact HB
    iexact HW

/-- A step that leaves the staging alone. -/
theorem Tri.keep {c : Dev nD} {R A A' W W' : sProp 𝕄} {f : P F PUnit} (h : Tri c iprop(R ∗ A ∗ W) f iprop(R ∗ A' ∗ W')) (S : sProp 𝕄) :
    Tri c iprop((R ∗ S) ∗ A ∗ W) f iprop((R ∗ S) ∗ A' ∗ W') := by
  refine (h.frame S).conseq ?_ ?_
  · iintro ⟨⟨HR, HS⟩, H⟩
    isplitl [HS]; · iexact HS
    isplitl [HR]; · iexact HR
    iexact H
  · iintro ⟨HS, HR, H⟩
    isplitl [HR HS]
    · isplitl [HR]; · iexact HR
      iexact HS
    iexact H

/-! ## The loops -/

/-- Before and after a wait at an end for which nothing is sent on. -/
def dPre (c : Dev nD) (ch : Ch) : sProp 𝕄 := iprop(pos (F := F) c ch 0 ∗ crd (F := F) c ch)
def dPost (c : Dev nD) (ch : Ch) : sProp 𝕄 := iprop(pos (F := F) c ch 1 ∗ chPay m ρ c ch)

/-- A loop of waits at ends gets what each of them hands over. -/
theorem wait_loop (c : Dev nD) (n : ℕ) (g : Fin n → Ch) {s s' : Fin n → Memref sig .tc .vmem S32x1024 .f32}
    {h : ∀ i, (s i).view.WordExact} {h' : ∀ i, (s' i).view.WordExact} :
    Tri c iprop(env m ρ K ∗ (bigSep Finset.univ fun i => dPre (F := F) c (g i)) ∗ owesX c 0)
      (seqFin n fun i => dWait (chSem (g i)) (s i) (s' i) (h i) (h' i))
      iprop(env m ρ K ∗ (bigSep Finset.univ fun i => dPost m ρ c (g i)) ∗ owesX c 0) :=
  Tri.loop' 0 (Above.zero 0) fun i => wait_step m ρ K c (g i) 0 (Above.zero _)

/-- The last waits. -/
theorem drain_step (c : Dev nD) :
    Tri c iprop(env m ρ K ∗ ((bigSep Finset.univ fun i : Fin 4 => dPre (F := F) c (.inl (.yr, lo i)))
        ∗ (bigSep Finset.univ fun i : Fin 4 => dPre (F := F) c (.inl (.zr, hi i)))
        ∗ (bigSep Finset.univ fun i : Fin 4 => dPre (F := F) c (.inr (.yr, i))) ∗ (bigSep Finset.univ fun i : Fin 4 => dPre (F := F) c (.inr (.zr, i)))
        ∗ (bigSep Finset.univ fun i : Fin 8 => dPre (F := F) c (.inl (.xs, i))) ∗ (bigSep Finset.univ fun i : Fin 8 => dPre (F := F) c (.inl (.ys, i)))
        ∗ (bigSep Finset.univ fun i : Fin 8 => dPre (F := F) c (.inl (.zs, i))) ∗ (bigSep Finset.univ fun i : Fin 4 => dPre (F := F) c (.inr (.ys, i)))
        ∗ bigSep Finset.univ fun i : Fin 4 => dPre (F := F) c (.inr (.zs, i))) ∗ owesX c 0)
      (drain c)
      iprop(env m ρ K ∗ ((bigSep Finset.univ fun i : Fin 4 => dPost m ρ c (.inl (.yr, lo i)))
        ∗ (bigSep Finset.univ fun i : Fin 4 => dPost m ρ c (.inl (.zr, hi i)))
        ∗ (bigSep Finset.univ fun i : Fin 4 => dPost m ρ c (.inr (.yr, i))) ∗ (bigSep Finset.univ fun i : Fin 4 => dPost m ρ c (.inr (.zr, i)))
        ∗ (bigSep Finset.univ fun i : Fin 8 => dPost m ρ c (.inl (.xs, i))) ∗ (bigSep Finset.univ fun i : Fin 8 => dPost m ρ c (.inl (.ys, i)))
        ∗ (bigSep Finset.univ fun i : Fin 8 => dPost m ρ c (.inl (.zs, i))) ∗ (bigSep Finset.univ fun i : Fin 4 => dPost m ρ c (.inr (.ys, i)))
        ∗ bigSep Finset.univ fun i : Fin 4 => dPost m ρ c (.inr (.zs, i))) ∗ owesX c 0) :=
  (wait_loop m ρ K c 4 fun i => .inl (.yr, lo i)).par <| (wait_loop m ρ K c 4 fun i => .inl (.zr, hi i)).par <|
  (wait_loop m ρ K c 4 fun i => .inr (.yr, i)).par <| (wait_loop m ρ K c 4 fun i => .inr (.zr, i)).par <|
  (wait_loop m ρ K c 8 fun i => .inl (.xs, i)).par <| (wait_loop m ρ K c 8 fun i => .inl (.ys, i)).par <|
  (wait_loop m ρ K c 8 fun i => .inl (.zs, i)).par <| (wait_loop m ρ K c 4 fun i => .inr (.ys, i)).par <|
  wait_loop m ρ K c 4 fun i => .inr (.zs, i)

/-- The loops that send. -/
theorem sends_step (c : Dev nD) :
    Tri c iprop((env m ρ K ∗ stages m ρ c) ∗
        ((bigSep Finset.univ fun i : Fin 8 => iprop(pPart m ρ c i ∗ anyC (F := F) (xn c) i ∗ tok (F := F) c (.inl (.xs, i)) ∗ tok (F := F) c (.inl (.xr, i))))
        ∗ (bigSep Finset.univ fun i : Fin 8 => iprop((dPre (F := F) c (.inl (.xr, i)) ∗ anyO (F := F) c (bk c) i)
            ∗ anyO (F := F) (yn c) (bk c) i ∗ anyO (F := F) (zn c) (bk c) i
            ∗ tok (F := F) c (.inl (.ys, i)) ∗ tok (F := F) c (.inl (.yr, i)) ∗ tok (F := F) c (.inl (.zs, i)) ∗ tok (F := F) c (.inl (.zr, i))))
        ∗ (bigSep Finset.univ fun i : Fin 4 => iprop(dPre (F := F) c (.inl (.zr, lo i)) ∗ anyO (F := F) (yn c) (bk (zn c)) (lo i)
            ∗ tok (F := F) c (.inr (.ys, i)) ∗ tok (F := F) c (.inr (.yr, i))))
        ∗ bigSep Finset.univ fun i : Fin 4 => iprop(dPre (F := F) c (.inl (.yr, hi i)) ∗ anyO (F := F) (zn c) (bk (yn c)) (hi i)
            ∗ tok (F := F) c (.inr (.zs, i)) ∗ tok (F := F) c (.inr (.zr, i)))) ∗ owesX c (OT c))
      ((seqFin 8 fun i => xSend c i).bind fun _ => (seqFin 8 fun i => (work c i).bind fun _ => share c i).bind fun _ =>
        (seqFin 4 fun i => passY c i).bind fun _ => seqFin 4 fun i => passZ c i)
      iprop((env m ρ K ∗ stages m ρ c) ∗
        ((bigSep Finset.univ fun i : Fin 8 => crd (F := F) c (.inl (.xs, i)))
        ∗ (bigSep Finset.univ fun i : Fin 8 => iprop((pos (F := F) c (.inl (.xr, i)) 1 ∗ hasC m ρ c i) ∗ crd (F := F) c (.inl (.ys, i)) ∗ crd (F := F) c (.inl (.zs, i))))
        ∗ (bigSep Finset.univ fun i : Fin 4 => iprop(pos (F := F) c (.inl (.zr, lo i)) 1 ∗ crd (F := F) c (.inr (.ys, i))))
        ∗ bigSep Finset.univ fun i : Fin 4 => iprop(pos (F := F) c (.inl (.yr, hi i)) 1 ∗ crd (F := F) c (.inr (.zs, i)))) ∗ owesX c 0) := by
  have a2 : ∀ i, Above 0 (o8 c .xr i) := fun i => Above.tally _ _ _ (show 0 < 2 by decide)
  have a4z : ∀ i, Above 3 (o4 c .zr i) := fun i => Above.tally _ _ _ (show 3 < 4 by decide)
  have a4y : ∀ i, Above 3 (o4 c .yr i) := fun i => Above.tally _ _ _ (show 3 < 4 by decide)
  have a8 : ∀ i, Above 2 (o8 c .zr i + o8 c .yr i) := fun i =>
    (Above.tally _ _ _ (show 2 < 3 by decide)).add (Above.tally _ _ _ (show 2 < 3 by decide))
  have aZ : Above 3 (0 : CellTallies nD τ sig Unit) := Above.zero 3
  have aY := aZ.add (Above.sum Finset.univ a4z)
  have aW := (aY.add (Above.sum Finset.univ a4y)).mono (show 2 ≤ 3 by decide)
  have aX := aW.add (Above.sum Finset.univ a8)
  refine Tri.par ((Tri.loop 0 (aX.mono (by decide)) a2 fun i O' _ => xSend_step m ρ K c i O').keep (stages m ρ c))
    (Tri.par (Tri.loop 2 aW a8 fun i O' hO' => ?_) (Tri.par
      ((Tri.loop 3 aY a4y fun i O' hO' => passY_step m ρ K c i O' hO').keep (stages m ρ c))
      ((Tri.loop 3 aZ a4z fun i O' hO' => passZ_step m ρ K c i O' hO').keep (stages m ρ c))))
  refine Tri.seq (((work_step m ρ K c i _ (hO'.add (a8 i))).frame iprop(anyO (F := F) (yn c) (bk c) i ∗ anyO (F := F) (zn c) (bk c) i
      ∗ tok (F := F) c (.inl (.ys, i)) ∗ tok (F := F) c (.inl (.yr, i)) ∗ tok (F := F) c (.inl (.zs, i)) ∗ tok (F := F) c (.inl (.zr, i)))).conseq ?_ .rfl)
    ((((share_step m ρ K c i O').keep (stages m ρ c)).frame iprop(pos (F := F) c (.inl (.xr, i)) 1 ∗ hasC m ρ c i)).conseq ?_ ?_)
  · unfold dPre
    iintro ⟨HR, ⟨HA, HB⟩, HO⟩
    isplitl [HB]; · iexact HB
    isplitl [HR]; · iexact HR
    isplitl [HA]; · iexact HA
    iexact HO
  · iintro ⟨HB, HR, ⟨HA, Ho⟩, HO⟩
    isplitl [HA]; · iexact HA
    isplitl [HR]; · iexact HR
    isplitl [HB Ho]
    · isplitl [Ho]; · iexact Ho
      iexact HB
    iexact HO
  · iintro ⟨HA, HR, HC, HO⟩
    isplitl [HR]; · iexact HR
    isplitl [HA HC]
    · isplitl [HA]; · iexact HA
      iexact HC
    iexact HO

/-! ## The transfers as a whole -/

def toks (c : Dev nD) : sProp 𝕄 := bigSep Finset.univ fun ch => tok (F := F) c ch
def poss (c : Dev nD) (r : ℕ) : sProp 𝕄 := bigSep Finset.univ fun ch => pos (F := F) c ch r
/-- The units that arrive from the neighbours. -/
def crds (c : Dev nD) : sProp 𝕄 :=
  iprop((bigSep Finset.univ fun i : Fin 8 => crd (F := F) c (.inl (.xr, i))) ∗ (bigSep Finset.univ fun i : Fin 8 => crd (F := F) c (.inl (.yr, i)))
    ∗ (bigSep Finset.univ fun i : Fin 8 => crd (F := F) c (.inl (.zr, i))) ∗ (bigSep Finset.univ fun i : Fin 4 => crd (F := F) c (.inr (.yr, i)))
    ∗ bigSep Finset.univ fun i : Fin 4 => crd (F := F) c (.inr (.zr, i)))
/-- All of device `e`'s rows, in device `c`'s result. -/
def hasAll (c e : Dev nD) (q : PosShare TreeShare) : sProp 𝕄 := bigSep Finset.univ fun i : Fin 8 => hasO m ρ c e i q

/-- What the transfers take and leave, beside the staging. -/
def talkPre (c : Dev nD) : sProp 𝕄 :=
  iprop((bigSep Finset.univ fun i : Fin 8 => pPart m ρ c i) ∗ (bigSep Finset.univ fun i : Fin 8 => anyO (F := F) c (bk c) i)
    ∗ (barPay (F := F) c 0 ∗ barPay (F := F) c 1 ∗ barPay (F := F) c 2) ∗ toks (F := F) c ∗ poss (F := F) c 0 ∗ crds (F := F) c)
def talkPost (c : Dev nD) : sProp 𝕄 :=
  iprop(poss (F := F) c 1 ∗ (bigSep Finset.univ fun i : Fin 8 => pPart m ρ c i) ∗ (bigSep Finset.univ fun i : Fin 8 => hasC m ρ c i)
    ∗ (hasAll m ρ c c fullShare.left ∗ hasAll m ρ c c fullShare.right)
    ∗ hasAll m ρ c (yn c) fullShare ∗ hasAll m ρ c (zn c) fullShare ∗ hasAll m ρ c (dg c) fullShare)

/-- The transfers are the sends, the work and the passing on, and then the last waits. -/
theorem talk_eq (c : Dev nD) : talk (F := F) c =
    (((seqFin 8 fun i => xSend c i).bind fun _ => (seqFin 8 fun i => (work c i).bind fun _ => share c i).bind fun _ =>
        (seqFin 4 fun i => passY c i).bind fun _ => seqFin 4 fun i => passZ c i).bind fun _ => drain c) := by
  unfold talk
  rw [show ∀ (f g : P F PUnit) (h : P F PUnit), (f.bind fun _ => g).bind (fun _ => h) = f.bind fun _ => g.bind fun _ => h from
    fun f g h => Prog.bind_assoc f (fun _ => g) (fun _ => h)]
  rw [show ∀ (f g : P F PUnit) (h : P F PUnit), (f.bind fun _ => g).bind (fun _ => h) = f.bind fun _ => g.bind fun _ => h from
    fun f g h => Prog.bind_assoc f (fun _ => g) (fun _ => h)]
  rw [show ∀ (f g : P F PUnit) (h : P F PUnit), (f.bind fun _ => g).bind (fun _ => h) = f.bind fun _ => g.bind fun _ => h from
    fun f g h => Prog.bind_assoc f (fun _ => g) (fun _ => h)]

/-- The transfers as a whole: afterwards nothing is owed and the device has all four blocks of the result. -/
theorem talk_step (c : Dev nD) :
    Tri c iprop((env m ρ K ∗ stages m ρ c) ∗ talkPre m ρ c ∗ owesX c (OT c)) (talk c)
      iprop((env m ρ K ∗ stages m ρ c) ∗ talkPost m ρ c ∗ owesX c 0) := by
  rw [talk_eq]
  refine Tri.seq (((sends_step m ρ K c).frame iprop(
      ((bigSep Finset.univ fun i : Fin 4 => dPre (F := F) c (.inl (.yr, lo i)))
        ∗ (bigSep Finset.univ fun i : Fin 4 => dPre (F := F) c (.inl (.zr, hi i)))
        ∗ (bigSep Finset.univ fun i : Fin 4 => dPre (F := F) c (.inr (.yr, i))) ∗ (bigSep Finset.univ fun i : Fin 4 => dPre (F := F) c (.inr (.zr, i))))
      ∗ (bigSep Finset.univ fun i : Fin 8 => pos (F := F) c (.inl (.xs, i)) 0) ∗ (bigSep Finset.univ fun i : Fin 8 => pos (F := F) c (.inl (.ys, i)) 0)
      ∗ (bigSep Finset.univ fun i : Fin 8 => pos (F := F) c (.inl (.zs, i)) 0) ∗ (bigSep Finset.univ fun i : Fin 4 => pos (F := F) c (.inr (.ys, i)) 0)
      ∗ (bigSep Finset.univ fun i : Fin 4 => pos (F := F) c (.inr (.zs, i)) 0))).conseq ?_ .rfl)
    ((((drain_step m ρ K c).keep (stages m ρ c)).frame iprop(
      (bigSep Finset.univ fun i : Fin 8 => iprop(pos (F := F) c (.inl (.xr, i)) 1 ∗ hasC m ρ c i))
      ∗ (bigSep Finset.univ fun i : Fin 4 => pos (F := F) c (.inl (.zr, lo i)) 1)
      ∗ (bigSep Finset.univ fun i : Fin 4 => pos (F := F) c (.inl (.yr, hi i)) 1))).conseq ?_ ?_)
  · unfold talkPre toks poss crds dPre
    rw [bigSep_ch, bigSep_ch, show barPay (F := F) c 0 = bigSep Finset.univ fun i : Fin 8 => anyC (F := F) (xn c) i from rfl,
      show barPay (F := F) c 1 = iprop((bigSep Finset.univ fun i : Fin 8 => anyO (F := F) (yn c) (bk c) i)
        ∗ bigSep Finset.univ fun i : Fin 4 => anyO (F := F) (yn c) (bk (zn c)) (lo i)) from rfl,
      show barPay (F := F) c 2 = iprop((bigSep Finset.univ fun i : Fin 8 => anyO (F := F) (zn c) (bk c) i)
        ∗ bigSep Finset.univ fun i : Fin 4 => anyO (F := F) (zn c) (bk (yn c)) (hi i)) from rfl,
      bigSep_half (fun i => pos (F := F) c (.inl (.yr, i)) 0), bigSep_half (fun i => pos (F := F) c (.inl (.zr, i)) 0),
      bigSep_half (fun i => crd (F := F) c (.inl (.yr, i))), bigSep_half (fun i => crd (F := F) c (.inl (.zr, i)))]
    simp only [bigSep_sep']
    iintro ⟨He, ⟨Hp, Ho, ⟨HcX, ⟨HoY, HoY'⟩, ⟨HoZ, HoZ'⟩⟩, ⟨⟨Txs, Txr, Tys, Tyr, Tzs, Tzr⟩, Uys, Uyr, Uzs, Uzr⟩,
      ⟨⟨Pxs, Pxr, Pys, ⟨Pyl, Pyh⟩, Pzs, ⟨Pzl, Pzh⟩⟩, Qys, Qyr, Qzs, Qzr⟩, ⟨Cxr, ⟨Cyl, Cyh⟩, ⟨Czl, Czh⟩, Dyr, Dzr⟩⟩, HO⟩
    isplitl [Pyl Cyl Pzh Czh Qyr Dyr Qzr Dzr Pxs Pys Pzs Qys Qzs]
    · iframe
    isplitl [He]; · iexact He
    isplitr [HO]
    · iframe
    iexact HO
  · unfold dPre
    simp only [bigSep_sep']
    iintro ⟨⟨H4, Pxs, Pys, Pzs, Qys, Qzs⟩, He, ⟨Cxs, ⟨⟨Pxr, Hc⟩, Cys, Czs⟩, ⟨Pzl, Dys⟩, ⟨Pyh, Dzs⟩⟩, HO⟩
    iframe
    iexact H4
  · unfold dPost talkPost poss hasAll
    rw [bigSep_ch, bigSep_half (fun i => pos (F := F) c (.inl (.yr, i)) 1), bigSep_half (fun i => pos (F := F) c (.inl (.zr, i)) 1),
      bigSep_half (fun i => hasO m ρ c (yn c) i fullShare), bigSep_half (fun i => hasO m ρ c (zn c) i fullShare), bigSep_half (fun i => hasO m ρ c (dg c) i fullShare)]
    simp only [bigSep_sep']
    simp only [chPay]
    iintro ⟨⟨⟨Pxr, Hc⟩, Pzl, Pyh⟩, He, ⟨⟨Pyl, Hyl⟩, ⟨Pzh, Hzh⟩, ⟨Qyr, Hdl⟩, ⟨Qzr, Hdh⟩, ⟨Pxs, Hp⟩, ⟨Pys, Hol⟩, ⟨Pzs, Hor⟩, ⟨Qys, Hzl⟩, ⟨Qzs, Hyh⟩⟩, HO⟩
    iframe

end Cert.KernelIdeal.Hand
-- ==== Proof.KIParts.lean ====
/-
# The buffers and their chunks

The result, the landing buffer and the summand as the conjunctions of their row chunks, and the result's contents.
-/
module

public import proofs.«01_k».proof.Proof.KITalk

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

/-! ## Disjoint chunks that cover -/

/-- The chunks of the result, block by block. -/
abbrev oRt (t : Fin 4 × Fin 8) : Rect S1024x1024 := oR t.1 t.2

/-- Different chunks of the result have no element in common. -/
theorem oRt_disjoint (t t' : Fin 4 × Fin 8) (h : t ≠ t') : Disjoint (oRt t).set (oRt t').set := by
  obtain ⟨k, i⟩ := t; obtain ⟨k', i'⟩ := t'
  have hne : k.val ≠ k'.val ∨ i.val ≠ i'.val := by
    by_contra hc
    rw [not_or, not_not, not_not] at hc
    exact h (Prod.ext (Fin.ext hc.1) (Fin.ext hc.2))
  have := i.isLt; have := i'.isLt
  refine Rect.disjoint_of_separated _ _ (0 : Fin 2) ?_
  show (32 = 0 ∨ (256 * k.val + 32 * i.val) + 1 * (32 - 1) < (256 * k'.val + 32 * i'.val))
    ∨ (32 = 0 ∨ (256 * k'.val + 32 * i'.val) + 1 * (32 - 1) < (256 * k.val + 32 * i.val))
  omega

/-- The 32 chunks make up the whole result. -/
theorem oRt_cover : (Finset.univ : Finset (Fin 4 × Fin 8)).biUnion (fun t => (oRt t).set) = Finset.univ := by
  refine Finset.eq_univ_of_forall fun x => ?_
  have hx : (x 0).val < 1024 := (x 0).isLt
  have hy : (x 1).val < 1024 := (x 1).isLt
  refine Finset.mem_biUnion.mpr ⟨(⟨(x 0).val / 256, by omega⟩, ⟨(x 0).val % 256 / 32, by omega⟩), Finset.mem_univ _, ?_⟩
  refine LoadRect.mem_set _ |>.mpr fun a => ?_
  fin_cases a
  · refine ⟨(x 0).val % 32, ?_, ?_⟩
    · show (x 0).val % 32 < 32; omega
    · show (x 0).val = 256 * ((x 0).val / 256) + 32 * ((x 0).val % 256 / 32) + 1 * ((x 0).val % 32); omega
  · exact ⟨(x 1).val, hy, by show (x 1).val = 0 + 1 * (x 1).val; omega⟩

/-- Different chunks of the landing buffer have no element in common. -/
theorem cR_disjoint (i i' : Fin 8) (h : i ≠ i') : Disjoint (cR i).set (cR i').set := by
  have hne : i.val ≠ i'.val := fun hc => h (Fin.ext hc)
  refine Rect.disjoint_of_separated _ _ (0 : Fin 2) ?_
  show (32 = 0 ∨ 32 * i.val + 1 * (32 - 1) < 32 * i'.val) ∨ (32 = 0 ∨ 32 * i'.val + 1 * (32 - 1) < 32 * i.val)
  omega

/-- The eight chunks make up the whole landing buffer. -/
theorem cR_cover : (Finset.univ : Finset (Fin 8)).biUnion (fun i => (cR i).set) = Finset.univ := by
  refine Finset.eq_univ_of_forall fun x => ?_
  have hx : (x 0).val < 256 := (x 0).isLt
  refine Finset.mem_biUnion.mpr ⟨⟨(x 0).val / 32, by omega⟩, Finset.mem_univ _, ?_⟩
  refine LoadRect.mem_set _ |>.mpr fun a => ?_
  fin_cases a
  · refine ⟨(x 0).val % 32, ?_, ?_⟩
    · show (x 0).val % 32 < 32; omega
    · show (x 0).val = 32 * ((x 0).val / 32) + 1 * ((x 0).val % 32); omega
  · exact ⟨(x 1).val, (x 1).isLt, by show (x 1).val = 0 + 1 * (x 1).val; omega⟩

/-! ## The result's contents -/

/-- The device of the plane that works block `k` out. -/
def own (c : Dev nD) (k : Fin 4) : Dev nD := ⟨4 * (c.val / 4) + k.val, by have h : c.val < 8 := c.isLt; have := k.isLt; show _ < 8; omega⟩
/-- The blocks of a device, of its neighbours along `y` and `z` and of the diagonal one are worked out by those four devices. -/
theorem own_bk (c : Dev nD) : own c (bk c) = c ∧ own c (bk (yn c)) = yn c ∧ own c (bk (zn c)) = zn c ∧ own c (bk (dg c)) = dg c := by
  revert c; decide

/-- Row `r`, column `l` of a chunk. -/
def at2 (r l : ℕ) (hr : r < 32) (hl : l < 1024) : S32x1024.Idx := fun a => match a with
  | ⟨0, _⟩ => ⟨r, hr⟩
  | ⟨1, _⟩ => ⟨l, hl⟩

/-- The result on device `c`: every block as the device of the plane that works it out has it. -/
def OUT (c : Dev nD) : (cc0_stg3_0 : Ref sig .tc).ty.Contents (Elt F) := fun x =>
  V m ρ (own c ⟨(x (0 : Fin 2)).val / 256, by have h : (x (0 : Fin 2)).val < 1024 := (x (0 : Fin 2)).isLt; omega⟩)
    ⟨(x (0 : Fin 2)).val % 256 / 32, by omega⟩
    (at2 ((x (0 : Fin 2)).val % 32) (x (1 : Fin 2)).val (by omega) (x (1 : Fin 2)).isLt)

/-- The result, read in a chunk, is that chunk as worked out by the block's device. -/
theorem OUT_emb (c : Dev nD) (t : Fin 4 × Fin 8) (j : (oRt t).shape.Idx) : OUT m ρ c ((oRt t).emb j) = V m ρ (own c t.1) t.2 j := by
  obtain ⟨k, i⟩ := t
  have h0 : ((oRt (k, i)).emb j (0 : Fin 2)).val = 256 * k.val + 32 * i.val + 1 * (j (0 : Fin 2)).val := rfl
  have h1 : ((oRt (k, i)).emb j (1 : Fin 2)).val = 0 + 1 * (j (1 : Fin 2)).val := rfl
  have hj : (j (0 : Fin 2)).val < 32 := (j (0 : Fin 2)).isLt
  have := i.isLt
  unfold OUT
  congr 1
  · congr 1
    refine Fin.ext ?_
    show ((oRt (k, i)).emb j (0 : Fin 2)).val / 256 = k.val
    omega
  · refine Fin.ext ?_
    show ((oRt (k, i)).emb j (0 : Fin 2)).val % 256 / 32 = i.val
    omega
  · funext a
    fin_cases a
    · refine Fin.ext ?_
      show ((oRt (k, i)).emb j (0 : Fin 2)).val % 32 = (j (0 : Fin 2)).val
      omega
    · refine Fin.ext ?_
      show ((oRt (k, i)).emb j (1 : Fin 2)).val = (j (1 : Fin 2)).val
      omega

omit [FloatOps F] in
/-- A conjunction over the four blocks, in the order: one's own, along `y`, along `z`, across. -/
theorem bigSep_bk (c : Dev nD) (Φ : Fin 4 → sProp 𝕄) :
    bigSep Finset.univ Φ = iprop(Φ (bk c) ∗ Φ (bk (yn c)) ∗ Φ (bk (zn c)) ∗ Φ (bk (dg c))) := by
  rw [bigSep_univ_eq_bigSepL [bk c, bk (yn c), bk (zn c), bk (dg c)] (by revert c; decide) (by revert c; decide)]
  simp only [bigSepL_cons_cons, bigSepL_singleton]
  rfl

/-- The whole result, chunk by chunk. -/
theorem out_split (c : Dev nD) (f : Buf (Elt F) (oM.view.loc (c : Thread nD τ))) :
    (oM.view.loc (c : Thread nD τ) ↦{fullShare} f : sProp 𝕄) ⊢ iprop((bigSep Finset.univ fun i : Fin 8 => anyO (F := F) c (bk c) i)
      ∗ (bigSep Finset.univ fun i : Fin 8 => anyO (F := F) c (bk (yn c)) i) ∗ (bigSep Finset.univ fun i : Fin 8 => anyO (F := F) c (bk (zn c)) i)
      ∗ bigSep Finset.univ fun i : Fin 8 => anyO (F := F) c (bk (dg c)) i) := by
  rw [← bigSep_bk c fun k => bigSep Finset.univ fun i : Fin 8 => anyO (F := F) c k i, ← BI.bigSep_univ_prod fun t : Fin 4 × Fin 8 => anyO (F := F) c t.1 t.2]
  refine BIBase.Entails.trans ?_ (ownsSat_rects (c : Thread nD τ) oM fullShare oRt (fun _ _ => rfl) oRt_disjoint oRt_cover (Ψ := fun _ _ => True))
  refine BIBase.Entails.trans ?_ (ownsSat_intro (c : Thread nD τ) oM fullShare (X := f) (fun _ => trivial))
  exact Entails.of_eq (owns_whole (c : Thread nD τ) cc0_stg3_0 fullShare f).symm

/-- All four blocks are the whole result. -/
theorem out_join (c : Dev nD) :
    iprop((hasAll m ρ c c fullShare.left ∗ hasAll m ρ c c fullShare.right) ∗ hasAll m ρ c (yn c) fullShare ∗ hasAll m ρ c (zn c) fullShare
        ∗ hasAll m ρ c (dg c) fullShare)
      ⊢ (oM.view.loc (c : Thread nD τ) ↦{fullShare} OUT m ρ c : sProp 𝕄) := by
  have hown := own_bk c
  have hrows : ∀ e, own c (bk e) = e → (hasAll m ρ c e fullShare : sProp 𝕄) = bigSep Finset.univ fun i : Fin 8 =>
      owns (c : Thread nD τ) (oC (bk e) i) fullShare fun j => OUT m ρ c ((oRt (bk e, i)).emb j) := fun e he => by
    unfold hasAll
    refine bigSep_congr fun i _ => ?_
    exact congrArg (owns (c : Thread nD τ) (oC (bk e) i) fullShare) (funext fun j => ((OUT_emb m ρ c (bk e, i) j).trans (by dsimp only; rw [he])).symm)
  have hhalf : iprop(hasAll m ρ c c fullShare.left ∗ hasAll m ρ c c fullShare.right) ⊢ hasAll m ρ c c fullShare := by
    unfold hasAll
    rw [← bigSep_sep']
    exact bigSep_mono fun i _ => (owns_halves (c : Thread nD τ) (oC (bk c) i) fullShare (V m ρ c i)).2
  refine (sep_mono_left hhalf).trans ?_
  rw [hrows c hown.1, hrows (yn c) hown.2.1, hrows (zn c) hown.2.2.1, hrows (dg c) hown.2.2.2,
    ← bigSep_bk c fun k => bigSep Finset.univ fun i : Fin 8 => owns (c : Thread nD τ) (oC k i) fullShare fun j => OUT m ρ c ((oRt (k, i)).emb j),
    ← BI.bigSep_univ_prod fun t : Fin 4 × Fin 8 => owns (c : Thread nD τ) (oC t.1 t.2) fullShare fun j => OUT m ρ c ((oRt t).emb j)]
  refine (owns_of_rects (c : Thread nD τ) oM fullShare oRt (fun _ _ => rfl) oRt_disjoint oRt_cover (OUT m ρ c)).trans ?_
  exact Entails.of_eq (owns_whole (c : Thread nD τ) cc0_stg3_0 fullShare (OUT m ρ c))

/-! ## The landing buffer -/

/-- The landing buffer is cut into its eight chunks. -/
theorem landing_split (c : Dev nD) (f : Buf (Elt F) (cM.view.loc (c : Thread nD τ))) :
    (cM.view.loc (c : Thread nD τ) ↦{fullShare} f : sProp 𝕄) ⊢ bigSep Finset.univ fun i : Fin 8 => anyC (F := F) c i := by
  refine BIBase.Entails.trans ?_ (ownsSat_rects (c : Thread nD τ) cM fullShare cR (fun _ _ => rfl) cR_disjoint cR_cover (Ψ := fun _ _ => True))
  refine BIBase.Entails.trans ?_ (ownsSat_intro (c : Thread nD τ) cM fullShare (X := f) (fun _ => trivial))
  exact Entails.of_eq (owns_whole (c : Thread nD τ) cc0_scratch0 fullShare f).symm

/-- The eight chunks that have landed make up the landing buffer again. -/
theorem landing_join (c : Dev nD) :
    (bigSep Finset.univ fun i : Fin 8 => hasC m ρ c i) ⊢ (iprop(∃ f, cM.view.loc (c : Thread nD τ) ↦{fullShare} f) : sProp 𝕄) := by
  refine BIBase.Entails.trans (bigSep_mono fun i _ => (ownsSat_intro (c : Thread nD τ) (cSl i) fullShare (X := xRows m ρ (xn c) i) (Φ := fun _ => True) trivial)) ?_
  refine (ownsSat_of_rects (c : Thread nD τ) cM fullShare cR (fun _ _ => rfl) cR_disjoint cR_cover (Ψ := fun _ _ => True)).trans ?_
  refine (ownsSat_elim (c : Thread nD τ) cM fullShare _).trans ?_
  iintro ⟨%X, -, H⟩
  iexists X
  iapply (Entails.of_eq (owns_whole (c : Thread nD τ) cc0_scratch0 fullShare X))
  iexact H

/-! ## The summand -/

/-- Where chunk `i` that device `c` sends begins in its summand. -/
theorem off1_row : ∀ (c : Dev nD) (i : Fin 8), k0_off1 c (BitVec.ofNat 32 (32 * i.val)) = ![0, 256 * (bk c).val + 32 * i.val, 0] := by decide +kernel

/-- Different chunks of the summand that a device sends have no element in common. -/
theorem pSl_disjoint (c : Dev nD) (i i' : Fin 8) (h : i ≠ i') : Disjoint (pSl c i).view.set (pSl c i').view.set := by
  have hne : i.val ≠ i'.val := fun hc => h (Fin.ext hc)
  have key := View.disjoint_slice_of_sep pM.view
    (Rect.unit (s := S1x1024x1024) (k0_off1 c (BitVec.ofNat 32 (32 * i.val))) S1x32x1024.size (k0_off1_inb c i))
    (Rect.unit (s := S1x1024x1024) (k0_off1 c (BitVec.ofNat 32 (32 * i'.val))) S1x32x1024.size (k0_off1_inb c i')) (1 : Fin 3) rfl rfl (by
      show k0_off1 c (BitVec.ofNat 32 (32 * i.val)) (1 : Fin 3) + 32 ≤ k0_off1 c (BitVec.ofNat 32 (32 * i'.val)) (1 : Fin 3)
        ∨ k0_off1 c (BitVec.ofNat 32 (32 * i'.val)) (1 : Fin 3) + 32 ≤ k0_off1 c (BitVec.ofNat 32 (32 * i.val)) (1 : Fin 3)
      rw [off1_row, off1_row]
      show 256 * (bk c).val + 32 * i.val + 32 ≤ 256 * (bk c).val + 32 * i'.val ∨ 256 * (bk c).val + 32 * i'.val + 32 ≤ 256 * (bk c).val + 32 * i.val
      omega)
  have hs : ∀ i, (pSl c i).view.set = (pM.view.slice (Rect.unit (s := S1x1024x1024) (k0_off1 c (BitVec.ofNat 32 (32 * i.val))) S1x32x1024.size (k0_off1_inb c i))).set :=
    fun i => View.set_reshape _ _
  rw [hs, hs]; exact key

omit [FloatOps F] in
/-- A buffer: half a share of it, and of the other half eight disjoint parts and the rest. -/
theorem parts_split (ℓ : Loc nD τ sig) (f : Buf (Elt F) ℓ) (A : Fin 8 → Finset (Idx ℓ)) (hA : ∀ i i', i ≠ i' → Disjoint (A i) (A i')) :
    (ℓ ↦{fullShare} f : sProp 𝕄) ⊣⊢ iprop((ℓ ↦{fullShare.left} f) ∗ (bigSep Finset.univ fun i : Fin 8 => (ℓ ↦[A i]{fullShare.right} f))
      ∗ (ℓ ↦[Finset.univ \ Finset.univ.biUnion A]{fullShare.right} f)) := by
  rw [← pointsTo_biUnion Finset.univ A fun i _ i' _ h => hA i i' h]
  have h1 := pointsTo_share (Ix := Unit) (Name := ℕ) (U := UU) (Lvl := ℕ) (ℓ := ℓ) (I := Finset.univ) (f := f) (PosShare.mem_left_op_right fullShare)
  have h2 := pointsTo_split_subset (Ix := Unit) (Name := ℕ) (U := UU) (Lvl := ℕ) (ℓ := ℓ) (q := fullShare.right) (f := f)
    (Finset.subset_univ (Finset.univ.biUnion A))
  exact ⟨h1.1.trans (sep_mono_right h2.1), (sep_mono_right h2.2).trans h1.2⟩

/-- The elements of the summand outside the chunks sent. -/
def pRest (c : Dev nD) : Finset (Idx (pM.view.loc (c : Thread nD τ))) := Finset.univ \ Finset.univ.biUnion fun i : Fin 8 => (pSl c i).view.set

/-- The summand: half a share of it, and of the other half the chunks sent and the rest. -/
theorem summand_split (c : Dev nD) : (pM.view.loc (c : Thread nD τ) ↦{fullShare} pstg m ρ c : sProp 𝕄) ⊣⊢
    iprop((pM.view.loc (c : Thread nD τ) ↦{fullShare.left} pstg m ρ c) ∗ (bigSep Finset.univ fun i : Fin 8 => pPart m ρ c i)
      ∗ (pM.view.loc (c : Thread nD τ) ↦[pRest c]{fullShare.right} pstg m ρ c)) :=
  parts_split (pM.view.loc (c : Thread nD τ)) (pstg m ρ c) (fun i => (pSl c i).view.set) (pSl_disjoint c)

end Cert.KernelIdeal.Hand
-- ==== Proof.KIBody.lean ====
/-
# The body

The handshake, the transfers and the closing of the semaphores: the body from its launch resources to its results.
-/
module

public import proofs.«01_k».proof.Proof.KITalk
public import proofs.«01_k».proof.Proof.KIParts

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

open Idealize.ShloMosaic.Pipeline (Dat Cfg Window BodyObligation cellOf)

/-! ## The handshake -/

/-- Signalling the neighbour in direction `d` pays one duty of its barrier, hands over what the signal carries, and takes the signal off what device `c` owes. -/
theorem signal_step (c n : Dev nD) (d : Fin 3) (hn : n = nb3 d c) (O : CellTallies nD τ sig Unit) :
    Tri c iprop(env m ρ K ∗ (barPay (F := F) (nb3 d c) d ∗ dutyTok ER (kcell (nb3 d c, none)) 0 d) ∗ owesX c (O + oB c d))
      (Prog.lift (.semSignal (Dev.tc n) barS 1)) iprop(env m ρ K ∗ emp ∗ owesX c O) := fun k Z => by
  subst hn
  unfold owesX
  show _ ⊢ iprop(_ -∗ run c (.op (.semSignal (Dev.tc (nb3 d c)) barS 1) k) Z)
  iintro ⟨#He, ⟨Hp, Ht⟩, ⟨%W, HO⟩⟩ Hk
  ihave Hi := (env_inv m ρ K (nb3 d c, none)) $$ He
  ihave Hr := (env_reached m ρ K (nb3 d c, none)) $$ He
  ihave Hp := (show barPay (F := F) (nb3 d c) d ⊢ (Rd (F := F) m ρ).payload ((nb3 d c : Thread nD τ), SemLoc.reg barS) 0 d from
    Entails.of_eq (payload_bar m ρ (nb3 d c) d).symm) $$ Hp
  iapply (Rounds.wp_signal 𝒱₀ ER (Rd m ρ) (c : Thread nD τ) none (dst := (nb3 d c : Thread nD τ)) (κ := K (nb3 d c, none))
    (d := d) (show d ∈ (Rd (F := F) m ρ).duties (kcell (nb3 d c, none)) 0 by rw [duties_bar]; exact Finset.mem_univ _)
    (amount_bar m ρ (nb3 d c) d) () O rfl) $$ [Hi HO Ht Hp Hr]
  · isplitl [Hi]; · iexact Hi
    isplitl [HO]; · iexact HO
    isplitl [Ht]; · iexact Ht
    isplitl [Hp]; · iexact Hp
    iexact Hr
  iintro HO
  iapply Hk
  isplitr; · iexact He
  isplitr; · iempintro
  iexists W; iexact HO

/-- Waiting for the three units of its barrier, device `c` gets what its three neighbours hand over. -/
theorem barrier_step (c : Dev nD) (O : CellTallies nD τ sig Unit) (hO : Above 1 O) :
    Tri c iprop(env m ρ K ∗ (atPos ER (kcell (c, none)) 0 ∅ 0 ∗ cred (tallyAt (kcell (c, none)) () 3)) ∗ owesX c O)
      (Prog.lift (.semWait barS 3))
      iprop(env m ρ K ∗ (atPos ER (kcell (c, none)) 1 ∅ 0 ∗ barPay (F := F) c 0 ∗ barPay (F := F) c 1 ∗ barPay (F := F) c 2) ∗ owesX c O) := fun k Z => by
  unfold owesX
  show _ ⊢ iprop(_ -∗ run c (.op (.semWait barS 3) k) Z)
  iintro ⟨#He, ⟨Hp, Hc⟩, ⟨%W, HO⟩⟩ Hk
  ihave Hi := (env_inv m ρ K (c, none)) $$ He
  ihave HL := (env_lev m ρ K) $$ He
  ihave HM := (mayWait (F := F) c (ksem none) O (by rw [show lv ((c : Thread nD τ), ksem none) () = 1 from lv_kcell c none]; exact hO)) $$ HL
  iapply (Rounds.wp_wait_rest_token 𝒱₀ ER (Rd m ρ) (c : Thread nD τ) none (κ := K (c, none))
    (wpE_semWait_eq 𝒱₀ (c : Thread nD τ) none Set.univ) (Set.mem_univ _) () (O := O) (W := W) (R := 0) (m := 0) (T := ∅)
    (by rw [Nat.zero_add]; exact (expect_bar m ρ c).symm)) $$ [Hi Hc HO HM Hp]
  · isplitl [Hi]; · iexact Hi
    isplitl [Hc]; · iexact Hc
    isplitl [HO]; · iexact HO
    isplitl [HM]; · iexact HM
    iexact Hp
  iintro ⟨HO, Hp, -, Hpay⟩
  ihave Hpay := (show (bigSep ((Rd (F := F) m ρ).duties ((c : Thread nD τ), SemLoc.reg barS) 0 \ ∅)
    fun d => (Rd (F := F) m ρ).payload ((c : Thread nD τ), SemLoc.reg barS) 0 d) ⊢ _ from Entails.of_eq (rest_bar m ρ c)) $$ Hpay
  iapply Hk
  isplitr; · iexact He
  isplitl [Hp Hpay]
  · isplitl [Hp]; · iexact Hp
    iexact Hpay
  iexists _; iexact HO

/-- The handshake of the body. -/
def shake (d : Dev nD) : P F PUnit :=
  (Prog.lift (.semSignal (Dev.tc (xd d)) barS 1)).bind fun _ =>
  (Prog.lift (.semSignal (Dev.tc (yd d)) barS 1)).bind fun _ =>
  (Prog.lift (.semSignal (Dev.tc (zd d)) barS 1)).bind fun _ =>
  Prog.lift (.semWait barS 3)

/-- The body is the handshake followed by the transfers. -/
theorem body_shake : body (F := F) = .op .deviceId fun d => (shake d).bind fun _ => talk d := rfl

/-- The duties at the neighbours' barriers that device `c` pays. -/
def barToks (c : Dev nD) : sProp 𝕄 :=
  iprop(dutyTok ER (kcell (xn c, none)) 0 0 ∗ dutyTok ER (kcell (yn c, none)) 0 1 ∗ dutyTok ER (kcell (zn c, none)) 0 2)

/-- Everything a device owes for the transfers is above the level of the barrier. -/
theorem above_OT (c : Dev nD) : Above 1 (OT c) := by
  have a4 : ∀ k : K4, 1 < klev (some (.inr (k, 0))) → ∀ i, Above 1 (o4 c k i) := fun k hk i => Above.tally _ _ _ (by cases k <;> exact hk)
  have a8 : ∀ k : K8, 1 < klev (some (.inl (k, 0))) → ∀ i, Above 1 (o8 c k i) := fun k hk i => Above.tally _ _ _ (by cases k <;> exact hk)
  unfold OT
  exact ((((Above.zero 1).add (Above.sum _ (a4 .zr (by decide)))).add (Above.sum _ (a4 .yr (by decide)))).add
    (Above.sum _ fun i => (a8 .zr (by decide) i).add (a8 .yr (by decide) i))).add (Above.sum _ (a8 .xr (by decide)))

/-- The handshake: device `c` gives each neighbour what its signal carries and gets the same from them; after it only the transfers are owed. -/
theorem shake_step (c : Dev nD) :
    Tri c iprop(env m ρ K ∗ ((barPay (F := F) (xn c) 0 ∗ barPay (F := F) (yn c) 1 ∗ barPay (F := F) (zn c) 2) ∗ barToks c
        ∗ atPos ER (kcell (c, none)) 0 ∅ 0 ∗ cred (tallyAt (kcell (c, none)) () 3)) ∗ owesX c (O₀ c)) (shake c)
      iprop(env m ρ K ∗ (atPos ER (kcell (c, none)) 1 ∅ 0 ∗ barPay (F := F) c 0 ∗ barPay (F := F) c 1 ∗ barPay (F := F) c 2) ∗ owesX c (OT c)) := by
  refine ((signal_step m ρ K c (xd c) 0 (xd_eq c) _).par ((signal_step m ρ K c (yd c) 1 (yd_eq c) _).par
    ((signal_step m ρ K c (zd c) 2 (zd_eq c) _).par (barrier_step m ρ K c (OT c) (above_OT c))))).conseq ?_ ?_
  · unfold barToks
    iintro ⟨He, ⟨⟨H0, H1, H2⟩, ⟨T0, T1, T2⟩, Ha, Hc⟩, HO⟩
    isplitl [He]; · iexact He
    isplitr [HO]
    · isplitl [H0 T0]
      · isplitl [H0]; · iexact H0
        iexact T0
      isplitl [H1 T1]
      · isplitl [H1]; · iexact H1
        iexact T1
      isplitl [H2 T2]
      · isplitl [H2]; · iexact H2
        iexact T2
      isplitl [Ha]; · iexact Ha
      iexact Hc
    iexact HO
  · iintro ⟨He, ⟨-, -, -, H⟩, HO⟩
    isplitl [He]; · iexact He
    isplitl [H]; · iexact H
    iexact HO

/-! ## The whole body -/

/-- What device `c` has of its own at launch. -/
def linear (c : Dev nD) : sProp 𝕄 :=
  iprop(toks (F := F) c ∗ barToks (F := F) c ∗ poss (F := F) c 0 ∗ atPos ER (kcell (c, none)) 0 ∅ 0)
def credits (c : Dev nD) : sProp 𝕄 := iprop(cred (tallyAt (kcell (c, none)) () 3) ∗ crds (F := F) c)

/-- The four staging buffers and the landing buffer, before and after. -/
def bufsPre (c : Dev nD) : sProp 𝕄 :=
  iprop((pM.view.loc (c : Thread nD τ) ↦{fullShare} pstg m ρ c) ∗ (rM.view.loc (c : Thread nD τ) ↦{fullShare} rstg m ρ c)
    ∗ (gM.view.loc (c : Thread nD τ) ↦{fullShare} gstg m ρ c) ∗ (∃ f, oM.view.loc (c : Thread nD τ) ↦{fullShare} f)
    ∗ ∃ f, cM.view.loc (c : Thread nD τ) ↦{fullShare} f)
def bufsPost (c : Dev nD) : sProp 𝕄 :=
  iprop((pM.view.loc (c : Thread nD τ) ↦{fullShare} pstg m ρ c) ∗ (rM.view.loc (c : Thread nD τ) ↦{fullShare} rstg m ρ c)
    ∗ (gM.view.loc (c : Thread nD τ) ↦{fullShare} gstg m ρ c) ∗ (oM.view.loc (c : Thread nD τ) ↦{fullShare} OUT m ρ c)
    ∗ ∃ f, cM.view.loc (c : Thread nD τ) ↦{fullShare} f)

/-- The handshake and the transfers, on the whole buffers. -/
theorem parts_step (c : Dev nD) :
    Tri c iprop(env m ρ K ∗ (linear (F := F) c ∗ credits (F := F) c ∗ bufsPre m ρ c) ∗ owesX c (O₀ c)) ((shake c).bind fun _ => talk c)
      iprop(env m ρ K ∗ (poss (F := F) c 1 ∗ atPos ER (kcell (c, none)) 1 ∅ 0 ∗ bufsPost m ρ c) ∗ owesX c 0) := by
  refine Tri.seq (((shake_step m ρ K c).frame iprop(stages m ρ c ∗ (pM.view.loc (c : Thread nD τ) ↦[pRest c]{fullShare.right} pstg m ρ c)
      ∗ (bigSep Finset.univ fun i : Fin 8 => pPart m ρ c i) ∗ (bigSep Finset.univ fun i : Fin 8 => anyO (F := F) c (bk c) i)
      ∗ toks (F := F) c ∗ poss (F := F) c 0 ∗ crds (F := F) c)).conseq ?_ .rfl)
    (((talk_step m ρ K c).frame iprop(atPos ER (kcell (c, none)) 1 ∅ 0 ∗ (pM.view.loc (c : Thread nD τ) ↦[pRest c]{fullShare.right} pstg m ρ c))).conseq ?_ ?_)
  · unfold linear credits bufsPre stages
    rw [show barPay (F := F) (xn c) 0 = bigSep Finset.univ fun i : Fin 8 => anyC (F := F) c i by
        show (bigSep Finset.univ fun i : Fin 8 => anyC (F := F) (xn (xn c)) i) = _; rw [xn_xn],
      show barPay (F := F) (yn c) 1 = iprop((bigSep Finset.univ fun i : Fin 8 => anyO (F := F) c (bk (yn c)) i)
          ∗ bigSep Finset.univ fun i : Fin 4 => anyO (F := F) c (bk (dg c)) (lo i)) by
        show iprop((bigSep Finset.univ fun i : Fin 8 => anyO (F := F) (yn (yn c)) (bk (yn c)) i)
          ∗ bigSep Finset.univ fun i : Fin 4 => anyO (F := F) (yn (yn c)) (bk (zn (yn c))) (lo i)) = _; rw [yn_yn]; rfl,
      show barPay (F := F) (zn c) 2 = iprop((bigSep Finset.univ fun i : Fin 8 => anyO (F := F) c (bk (zn c)) i)
          ∗ bigSep Finset.univ fun i : Fin 4 => anyO (F := F) c (bk (dg c)) (hi i)) by
        show iprop((bigSep Finset.univ fun i : Fin 8 => anyO (F := F) (zn (zn c)) (bk (zn c)) i)
          ∗ bigSep Finset.univ fun i : Fin 4 => anyO (F := F) (zn (zn c)) (bk (yn (zn c))) (hi i)) = _; rw [zn_zn, yn_zn]]
    iintro ⟨He, ⟨⟨Ht, Hbt, Hpos, Ha⟩, ⟨Hcb, Hcr⟩, ⟨Hp, Hr, Hg, ⟨%fo, Ho⟩, ⟨%fc, Hc⟩⟩⟩, HO⟩
    ihave ⟨Hpl, Hpp, Hpr⟩ := (summand_split m ρ c).1 $$ Hp
    ihave ⟨Hob, Hoy, Hoz, Hod⟩ := (out_split (F := F) c fo) $$ Ho
    ihave ⟨Hdl, Hdh⟩ := (Entails.of_eq (bigSep_half fun i => anyO (F := F) c (bk (dg c)) i)) $$ Hod
    ihave Hc := (landing_split (F := F) c fc) $$ Hc
    isplitl [Hpl Hr Hg Hpr Hpp Hob Ht Hpos Hcr]
    · iframe
    isplitl [He]; · iexact He
    isplitr [HO]
    · iframe
    iexact HO
  · unfold talkPre
    iintro ⟨⟨Hs, Hpr, Hpp, Hob, Ht, Hpos, Hcr⟩, He, ⟨Ha, Hb⟩, HO⟩
    iframe
  · unfold talkPost bufsPost stages
    iintro ⟨⟨Ha, Hpr⟩, ⟨He, Hpl, Hr, Hg⟩, ⟨Hpos, Hpp, Hc, Hout⟩, HO⟩
    ihave Ho := (out_join m ρ c) $$ Hout
    ihave Hc := (landing_join m ρ c) $$ Hc
    ihave Hp := (summand_split m ρ c).2 $$ [Hpl Hpp Hpr]
    · iframe
    iframe

end Cert.KernelIdeal.Hand
-- ==== Proof.KILaunch.lean ====
/-
# What the launch deals

The cells and the duties funded at launch, the global step that shares out the invariants and deals each device the duties
it pays, the units each device may wait for, and the cells closed at the end.
-/
module

public import proofs.«01_k».proof.Proof.KIBody
public import Idealize.ShloMosaic.Lib.Pipeline.Launch
public import Idealize.ShloMosaic.Lib.Pipeline.Kit

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Option Ch → ℕ)

/-! ## Conjunctions -/

omit [FloatOps F] in
/-- A conjunction over the protocol's semaphores: the barrier's and the ends'. -/
theorem bigSep_opt (Φ : Option Ch → sProp 𝕄) :
    bigSep Finset.univ Φ = iprop((bigSep Finset.univ fun ch : Ch => Φ (some ch)) ∗ Φ none) := by
  rw [BI.bigSep_univ_equiv (Equiv.optionEquivSumPUnit.{0} Ch).symm, BI.bigSep_univ_sum,
    bigSep_univ_eq_bigSepL [PUnit.unit] (by decide) (by decide), bigSepL_singleton]
  rfl

omit [FloatOps F] in
/-- What holds for good may be used in every conjunct. -/
theorem bigSep_using {I : Type} [DecidableEq I] [Fintype I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

/-! ## The cells close -/

/-- A cell whose round is over is closed, and its semaphore is at zero. -/
theorem close_one (c : Dev nD) (k : Option Ch) :
    iprop(env m ρ K ∗ atPos ER (kcell (c, k)) 1 ∅ 0) ⊢ (|={Set.univ}=> semVal (kcell (c, k)) 0 : sProp 𝕄) := by
  iintro ⟨#He, Ha⟩
  ihave Hi := (env_inv m ρ K (c, k)) $$ He
  iapply (Rounds.cell_close ER (Rd m ρ) (Set.mem_univ (K (c, k))) (fun h => h) (R := 0 + 1) (duties_later m ρ (kcell (c, k)))) $$ [Hi Ha]
  isplitl [Hi]; · iexact Hi
  iexact Ha

/-- Every counter of a device reads zero after the transfers. -/
theorem close_all (c : Dev nD) :
    iprop(env m ρ K ∗ poss (F := F) c 1 ∗ atPos ER (kcell (c, none)) 1 ∅ 0)
      ⊢ (|={Set.univ}=> iprop((bigSep Finset.univ fun ch : Ch => semVal (kcell (c, some ch)) 0) ∗ semVal (kcell (c, none)) 0) : sProp 𝕄) := by
  iintro ⟨#He, Hp, Ha⟩
  imod (close_one m ρ K c none) $$ [Ha] with Hb
  · isplitr; · iexact He
    iexact Ha
  imod (show iprop(env m ρ K ∗ poss (F := F) c 1) ⊢ (|={Set.univ}=> bigSep Finset.univ fun ch : Ch => semVal (kcell (c, some ch)) 0 : sProp 𝕄) from
    (bigSep_using fun ch => close_one m ρ K c (some ch)).trans (bigSep_fupd _ _)) $$ [Hp] with Hs
  · isplitr; · iexact He
    iexact Hp
  imodintro
  isplitl [Hs]; · iexact Hs
  iexact Hb

/-! ## What is funded -/

/-- Different devices or semaphores have different cells. -/
theorem kcell_inj : Function.Injective kcell := fun ⟨c, k⟩ ⟨c', k'⟩ h => by
  have h1 : c = c' := congrArg (fun g : GSem nD τ sig => g.1.1) h
  have h2 : k = k' := ksem_inj (congrArg Prod.snd h)
  rw [h1, h2]
def theCells : Finset (GSem nD τ sig) := Finset.univ.map ⟨kcell, kcell_inj⟩

/-- The duties of a device's cells: three at the barrier, one at each end. -/
abbrev Du : Type := Fin 3 ⊕ Ch
def duty (ct : Dev nD × Du) : GSem nD τ sig × ℕ × Fin 3 := match ct.2 with
  | .inl d => (kcell (ct.1, none), 0, d)
  | .inr ch => (kcell (ct.1, some ch), 0, 0)
/-- Different duties are different. -/
theorem duty_inj : Function.Injective duty := fun ⟨c, t⟩ ⟨c', t'⟩ h => by
  rcases t with d | ch <;> rcases t' with d' | ch'
  · obtain ⟨h1, h2⟩ := Prod.mk.inj h
    have h3 : d = d' := congrArg Prod.snd h2
    have h4 : c = c' := (Prod.mk.inj (kcell_inj h1)).1
    rw [h3, h4]
  · have h1 := kcell_inj (Prod.mk.inj h).1
    exact absurd (Prod.mk.inj h1).2 (by intro h; cases h)
  · have h1 := kcell_inj (Prod.mk.inj h).1
    exact absurd (Prod.mk.inj h1).2 (by intro h; cases h)
  · have h1 := Prod.mk.inj (kcell_inj (Prod.mk.inj h).1)
    have h2 : c = c' := h1.1
    rw [h2, Option.some.inj h1.2]
def theDuties : Finset (GSem nD τ sig × ℕ × Fin 3) := Finset.univ.map ⟨duty, duty_inj⟩

/-- The device that pays a duty, and its inverse. -/
def payer : Du → Dev nD → Dev nD
  | .inl d => nb3 d
  | .inr ch => nb ch
/-- The payer of a duty's payer is the device itself. -/
theorem payer_payer (t : Du) (c : Dev nD) : payer t (payer t c) = c := by
  cases t with
  | inl d => exact nb3_nb3 d c
  | inr ch => exact nb_nb ch c
/-- Every duty, dealt to its payer. -/
def deal : Dev nD × Du ≃ Dev nD × Du :=
  Function.Involutive.toPerm (fun ct => (payer ct.2 ct.1, ct.2)) fun ⟨c, t⟩ => by show (payer t (payer t c), t) = _; rw [payer_payer]

abbrev dtok (ct : Dev nD × Du) : sProp 𝕄 := dutyTok ER (duty ct).1 (duty ct).2.1 (duty ct).2.2

omit [FloatOps F] in
/-- The tokens dealt to device `c` are those of the transfers and of the signals that it pays. -/
theorem deal_at (c : Dev nD) : iprop((dtok (F := F) (deal (c, .inl 0)) ∗ dtok (F := F) (deal (c, .inl 1)) ∗ dtok (F := F) (deal (c, .inl 2)))
      ∗ bigSep Finset.univ fun ch : Ch => dtok (F := F) (deal (c, .inr ch)))
    ⊢ iprop(toks (F := F) c ∗ barToks (F := F) c) := by
  unfold toks barToks
  iintro ⟨⟨H0, H1, H2⟩, H⟩
  isplitl [H]; · iexact H
  isplitl [H0]; · iexact H0
  isplitl [H1]; · iexact H1
  iexact H2

omit [FloatOps F] in
/-- The tokens of the devices' own duties are those of the duties the devices pay. -/
theorem deal_toks : (bigSep Finset.univ fun c : Dev nD => bigSep Finset.univ fun t : Du => dtok (F := F) (c, t))
    ⊢ bigSep Finset.univ fun c : Dev nD => iprop(toks (F := F) c ∗ barToks (F := F) c) := by
  rw [← BI.bigSep_univ_prod (fun ct : Dev nD × Du => dtok (F := F) ct), BI.bigSep_univ_equiv deal, BI.bigSep_univ_prod]
  refine bigSep_mono fun c _ => ?_
  rw [BI.bigSep_univ_sum, bigSep_univ_eq_bigSepL [(0 : Fin 3), 1, 2] (by decide) (by decide)]
  simp only [bigSepL_cons_cons, bigSepL_singleton]
  exact deal_at c

def u₀ : UU :=
  (initOf (Pipeline.cells cfgs cellOf_inj) (Pipeline.launchToks cfgs cellOf_inj), initOf theCells theDuties)

/-- What the launch element deals device `c`. -/
def G (c : Dev nD) : sProp 𝕄 :=
  iprop((bigSep Finset.univ fun k : Option Ch => roundState ER (Rd m ρ) (kcell (c, k)) 0)
    ∗ (bigSep Finset.univ fun k : Option Ch => iprop(atPos ER (kcell (c, k)) 0 ∅ 0 ∗ reached ER (kcell (c, k)) 0))
    ∗ bigSep Finset.univ fun t : Du => dtok (c, t))

/-- The records every device may use. -/
def records : sProp 𝕄 :=
  iprop((bigSep Finset.univ fun ck : Dev nD × Option Ch => cellInv ER (Rd m ρ) (K ck) (kcell ck))
    ∗ bigSep Finset.univ fun ck : Dev nD × Option Ch => reached ER (kcell ck) 0)
instance records_persistent : BI.Persistent (records m ρ K) := by unfold records; infer_instance

/-- The records and the levels make the shared environment. -/
theorem env_intro : iprop(records m ρ K ∗ levAts L lv) ⊢ env m ρ K := by
  unfold records env
  iintro ⟨⟨#HI, #HR⟩, #HL⟩
  isplitr; · iexact HI
  isplitr; · iexact HR
  iexact HL

/-- What the global step makes of it. -/
def G' (c : Dev nD) : sProp 𝕄 := iprop(∃ K, records m ρ K ∗ linear (F := F) c)

/-- The launch element of the cells funds every device's part. -/
theorem fund_cells : BI.own (ER (initOf theCells theDuties)) ⊢ (|==> bigSep Finset.univ (G m ρ) : sProp 𝕄) := by
  have hX (Φ : GSem nD τ sig → sProp 𝕄) : bigSep theCells Φ = bigSep Finset.univ fun c : Dev nD => bigSep Finset.univ fun k : Option Ch => Φ (kcell (c, k)) := by
    unfold theCells; rw [bigSep_map, BI.bigSep_univ_prod]; rfl
  have hT : bigSep theDuties (fun x => (dutyTok ER x.1 x.2.1 x.2.2 : sProp 𝕄)) = bigSep Finset.univ fun c : Dev nD => bigSep Finset.univ fun t : Du => dtok (c, t) := by
    unfold theDuties; rw [bigSep_map, BI.bigSep_univ_prod]; rfl
  iintro HX
  imod (Rounds.fund ER (Rd m ρ) theCells theDuties) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The global step -/

/-- The kernel's own semaphores. -/
abbrev osem : Ch → SemLoc sig := fun ch => ksem (some ch)
/-- The kernel's own semaphores are pairwise different, and apart from those of the staging. -/
theorem ownSemFacts : Pipeline.OwnSemFacts cfg0.spec osem := by decide +kernel

omit [FloatOps F] in
/-- The only semaphore outside the kernel's scope is the barrier, at zero. -/
theorem unscopedSems0_eq (c : Dev nD) : (unscopedSems0 c : sProp 𝕄) = semVal (kcell (c, none)) 0 := by
  unfold unscopedSems0; rw [bigSep_eq_bigSepL_of_eq [SemLoc.reg barS] (by decide +kernel) (by decide)]; rfl

abbrev ownSems (c : Dev nD) : sProp 𝕄 := Pipeline.ownSems0 (Ix := Unit) (Name := ℕ) (U := UU) (Lvl := ℕ) (Val := Elt F) (τ := τ) osem c

omit [FloatOps F] in
/-- A device's own semaphores at zero are the transfer cells' semaphores at zero. -/
theorem ownSems_eq (c : Dev nD) : ownSems (F := F) c = bigSep Finset.univ fun ch : Ch => semVal (kcell (c, some ch)) 0 := rfl

/-- A device's cells, allocated. -/
theorem core_alloc (c : Dev nD) :
    iprop(ownSems (F := F) c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun t : Du => dtok (c, t)) := by
  rw [ownSems_eq, unscopedSems0_eq]
  unfold G
  iintro ⟨Hos, Hus, Hst, Hat, Htok⟩
  ihave Hv := (Entails.of_eq (bigSep_opt (F := F) fun k => semVal (kcell (c, k)) 0).symm) $$ [Hos Hus]
  · isplitl [Hos]; · iexact Hos
    iexact Hus
  imod (show iprop((bigSep Finset.univ fun k : Option Ch => semVal (kcell (c, k)) 0) ∗ bigSep Finset.univ fun k : Option Ch => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The cells of all devices, regrouped: everyone shares the records, and each device has its own tokens and positions. -/
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0))
          ∗ bigSep Finset.univ fun t : Du => dtok (c, t)) : sProp 𝕄)
      ⊢ bigSep Finset.univ (G' m ρ) := by
  rw [bigSep_sep', bigSep_sep', ← BI.bigSep_univ_prod (fun ck : Dev nD × Option Ch => iprop(∃ κ : ℕ, cellInv ER (Rd m ρ) κ (kcell ck))),
    bigSep_congr (s := Finset.univ) (fun (c : Dev nD) _ => bigSep_sep' Finset.univ (fun k : Option Ch => (atPos ER (kcell (c, k)) 0 ∅ 0 : sProp 𝕄)) (fun k => reached ER (kcell (c, k)) 0)),
    bigSep_sep', ← BI.bigSep_univ_prod (fun ck : Dev nD × Option Ch => (reached ER (kcell ck) 0 : sProp 𝕄))]
  iintro ⟨HI, ⟨Hat, #HR⟩, Htok⟩
  ihave HK := (BI.bigSep_exists_pi Finset.univ (fun (ck : Dev nD × Option Ch) (κ : ℕ) => (cellInv ER (Rd m ρ) κ (kcell ck) : sProp 𝕄))) $$ HI
  icases HK with ⟨%K, #HI⟩
  ihave Htk := (deal_toks (F := F)) $$ Htok
  iapply (bigSep_using (R := records m ρ K)
    (Φ := fun c : Dev nD => iprop((bigSep Finset.univ fun k : Option Ch => atPos ER (kcell (c, k)) 0 ∅ 0) ∗ toks (F := F) c ∗ barToks (F := F) c)) fun c => by
      rw [bigSep_opt]
      unfold G' linear poss
      iintro ⟨HR, ⟨Hp, Hb⟩, Ht, Hbt⟩
      iexists K
      isplitl [HR]; · iexact HR
      isplitl [Ht]; · iexact Ht
      isplitl [Hbt]; · iexact Hbt
      isplitl [Hp]; · iexact Hp
      iexact Hb)
  isplitr
  · unfold records; isplitl; · iexact HI
    iexact HR
  · iapply (Entails.of_eq (bigSep_sep' Finset.univ (fun c : Dev nD => bigSep Finset.univ fun k : Option Ch => (atPos ER (kcell (c, k)) 0 ∅ 0 : sProp 𝕄))
      (fun c => iprop(toks (F := F) c ∗ barToks (F := F) c))).symm)
    isplitl [Hat]; · iexact Hat
    iexact Htk

/-- The global step: the semaphores of every device at once. -/
theorem glob : (bigSep Finset.univ fun c => iprop(ownSems (F := F) c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The units to wait for -/

omit [FloatOps F] in
/-- The units owed at the ends of an eight-chunk kind are those device `c` may wait for. -/
theorem cred_8 (c : Dev nD) (k : K8) :
    (bigSep Finset.univ fun i => Pipeline.launchCred (fun d => o8 d k i) c) ⊢ (bigSep Finset.univ fun i => crd (F := F) c (.inl (k, i))) :=
  bigSep_mono fun i _ => Pipeline.launchCred_tallyAt (ksem (some (.inl (k, i)))) (nb (.inl (k, i))) (nb (.inl (k, i))) (nb_nb _) (nb_nb _) () N c
omit [FloatOps F] in
/-- The units owed at the ends of a four-chunk kind are those device `c` may wait for. -/
theorem cred_4 (c : Dev nD) (k : K4) :
    (bigSep Finset.univ fun i => Pipeline.launchCred (fun d => o4 d k i) c) ⊢ (bigSep Finset.univ fun i => crd (F := F) c (.inr (k, i))) :=
  bigSep_mono fun i _ => Pipeline.launchCred_tallyAt (ksem (some (.inr (k, i)))) (nb (.inr (k, i))) (nb (.inr (k, i))) (nb_nb _) (nb_nb _) () N c
omit [FloatOps F] in
/-- The signal that the neighbour in direction `d` owes is a unit device `c` may wait for. -/
theorem cred_bar (c : Dev nD) (d : Fin 3) :
    Pipeline.launchCred (fun e => oB e d) c ⊢ (cred (tallyAt (kcell (c, none)) () 1) : sProp 𝕄) :=
  Pipeline.launchCred_tallyAt (ksem none) (nb3 d) (nb3 d) (nb3_nb3 d) (nb3_nb3 d) () 1 c

omit [FloatOps F] in
/-- The units the neighbours owe device `c`. -/
theorem creds (c : Dev nD) : (Pipeline.launchCred O₀ c : sProp 𝕄) ⊢ credits (F := F) c := by
  have h : (Pipeline.launchCred O₀ c : sProp 𝕄) = iprop(((((((emp
      ∗ bigSep Finset.univ fun i => Pipeline.launchCred (fun d => o4 d .zr i) c)
      ∗ bigSep Finset.univ fun i => Pipeline.launchCred (fun d => o4 d .yr i) c)
      ∗ (bigSep Finset.univ fun i => Pipeline.launchCred (fun d => o8 d .zr i) c) ∗ bigSep Finset.univ fun i => Pipeline.launchCred (fun d => o8 d .yr i) c)
      ∗ bigSep Finset.univ fun i => Pipeline.launchCred (fun d => o8 d .xr i) c)
      ∗ Pipeline.launchCred (fun d => oB d 2) c) ∗ Pipeline.launchCred (fun d => oB d 1) c) ∗ Pipeline.launchCred (fun d => oB d 0) c) := by
    rw [show O₀ = fun d => ((((((0 + ∑ i, o4 d .zr i) + ∑ i, o4 d .yr i) + ∑ i, (o8 d .zr i + o8 d .yr i)) + ∑ i, o8 d .xr i) + oB d 2) + oB d 1) + oB d 0 from rfl]
    simp only [Pipeline.launchCred_add, Pipeline.launchCred_sum, Pipeline.launchCred_zero, bigSep_sep']
  rw [h]
  unfold credits crds
  iintro ⟨⟨⟨⟨⟨⟨⟨-, H1⟩, H2⟩, H3, H4⟩, H5⟩, B2⟩, B1⟩, B0⟩
  ihave B0 := (cred_bar (F := F) c 0) $$ B0
  ihave B1 := (cred_bar (F := F) c 1) $$ B1
  ihave B2 := (cred_bar (F := F) c 2) $$ B2
  ihave H1 := (cred_4 (F := F) c .zr) $$ H1
  ihave H2 := (cred_4 (F := F) c .yr) $$ H2
  ihave H3 := (cred_8 (F := F) c .zr) $$ H3
  ihave H4 := (cred_8 (F := F) c .yr) $$ H4
  ihave H5 := (cred_8 (F := F) c .xr) $$ H5
  isplitl [B0 B1 B2]
  · rw [show (tallyAt (kcell (c, none)) () 3 : CellTallies nD τ sig Unit)
      = tallyAt (kcell (c, none)) () 1 + (tallyAt (kcell (c, none)) () 1 + tallyAt (kcell (c, none)) () 1) by rw [tallyAt_add, tallyAt_add]]
    iapply (cred_add _ _).2
    isplitl [B0]; · iexact B0
    iapply (cred_add _ _).2
    isplitl [B1]; · iexact B1
    iexact B2
  isplitl [H5]; · iexact H5
  isplitl [H4]; · iexact H4
  isplitl [H3]; · iexact H3
  isplitl [H2]; · iexact H2
  iexact H1

end Cert.KernelIdeal.Hand
-- ==== Proof.KIRun.lean ====
/-
# The run

The pipeline's proof data, the body's obligation, and the run of the launched program: it ends with the result array at the
rows worked out, the arguments as they were and every counter at zero.
-/
module

public import proofs.«01_k».proof.Proof.KILaunch
public import proofs.«01_k».proof.Proof.Gen.KernelIdeal.Points
public import Idealize.ShloMosaic.Lib.StableHlo.RunHlo
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device starts from: the records, its positions and tokens, the units to wait for, the levels. -/
def start (c : Dev nD) : sProp 𝕄 := iprop(G' m ρ c ∗ credits (F := F) c ∗ levAts L lv)

abbrev landing (c : Dev nD) : sProp 𝕄 := iprop(∃ f : Buf (Elt F) ((c : Thread nD τ).loc cc0_scratch0), ((c : Thread nD τ).loc cc0_scratch0) ↦{fullShare} f)

/-- Between the steps: before, the start and the landing buffer; after, that buffer and every counter at zero. -/
def Φ₀ (c : Dev nD) : sProp 𝕄 := iprop(start m ρ c ∗ landing (F := F) c)
def Φ₁ (c : Dev nD) : sProp 𝕄 := iprop(landing (F := F) c ∗ ownSems (F := F) c ∗ unscopedSems0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => pstg m ρ c
    | ⟨1, _⟩ => rstg m ρ c
    | ⟨2, _⟩ => gstg m ρ c
    | ⟨3, _⟩ => OUT m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
/-- Owning a whole staging buffer with contents `X` is its location holding `X`. -/
theorem owns_staging (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ (F := F) c ∗ (dats m ρ 0 c).owesAt () t0_0.succ ∗ stg c cc0_stg0_0 (pstg m ρ c) ∗ stg c cc0_stg1_0 (rstg m ρ c)
    ∗ stg c cc0_stg2_0 (gstg m ρ c) ∗ stg c cc0_stg3_0 (OUT m ρ c))

/-- Before the body the first window's buffer holds the device's summand. -/
theorem before_0 (c : Dev nD) (d) : (dats m ρ 0 c).before (0 : Fin 4) t0_0 d = pstg m ρ c := by
  unfold Dat.before; rw [if_pos (fetch0_0 t0_0)]; rfl
/-- Before the body the second window's buffer holds the residual. -/
theorem before_1 (c : Dev nD) (d) : (dats m ρ 0 c).before (1 : Fin 4) t0_0 d = rstg m ρ c := by
  unfold Dat.before; rw [if_pos (fetch0_1 t0_0)]; rfl
/-- Before the body the third window's buffer holds the scale. -/
theorem before_2 (c : Dev nD) (d) : (dats m ρ 0 c).before (2 : Fin 4) t0_0 d = gstg m ρ c := by
  unfold Dat.before; rw [if_pos (fetch0_2 t0_0)]; rfl

/-- A step that ends the program. -/
theorem Tri.last {c : Dev nD} {A B : sProp 𝕄} {f : P F PUnit} (h : Tri c A f B) (Z : PUnit → sProp 𝕄) :
    A ⊢ iprop((B -∗ |={Set.univ}=> Z ⟨⟩) -∗ run c f Z) := by
  have h' := h Prog.ret Z
  rw [show f.bind Prog.ret = f from Prog.bind_pure f] at h'
  unfold run at h' ⊢
  rw [wp_ret] at h'
  exact h'

/-- The body takes a device from its start to its end. -/
theorem sound_body (c : Dev nD) : bodyPre m ρ c ⊢ run c (body (F := F)) (fun _ => bodyPost m ρ c) := by
  rw [body_shake]
  unfold run
  rw [wp_deviceId]
  unfold bodyPre Φ₀ start G' Dat.owesAt Pipeline.owesWithin
  iintro ⟨⟨⟨⟨%K, #HR, Hl⟩, Hc, #HL⟩, Hs⟩, ⟨%W, %hW, HO⟩, ⟨%d0, %g0, %e0, H0⟩, ⟨%d1, %g1, %e1, H1⟩, ⟨%d2, %g2, %e2, H2⟩, ⟨%d3, %g3, %e3, H3⟩⟩
  rw [before_0] at e0
  rw [before_1] at e1
  rw [before_2] at e2
  subst e0 e1 e2
  rw [show (dats m ρ 0 c).owed t0_0.castSucc = O₀ c from rfl]
  ihave He := (env_intro m ρ K) $$ [HR HL]
  · isplitr; · iexact HR
    iexact HL
  iapply (Tri.last (parts_step m ρ K c) (fun _ => bodyPost m ρ c)) $$ [He Hl Hc Hs HO H0 H1 H2 H3]
  · unfold bufsPre owesX
    isplitl [He]; · iexact He
    isplitr [HO]
    · isplitl [Hl]; · iexact Hl
      isplitl [Hc]; · iexact Hc
      isplitl [H0]; · iexact H0
      isplitl [H1]; · iexact H1
      isplitl [H2]; · iexact H2
      isplitl [H3]; · iexists g3; iexact H3
      iexact Hs
    iexists W; iexact HO
  unfold bufsPost owesX
  iintro ⟨He, ⟨Hp, Ha, H0, H1, H2, H3, Hs⟩, ⟨%W', HO⟩⟩
  imod (close_all m ρ K c) $$ [He Hp Ha] with ⟨Hz, Hb⟩
  · iframe
  imodintro
  unfold bodyPost Φ₁ Dat.owesAt Pipeline.owesWithin
  rw [show (dats m ρ 0 c).owed t0_0.succ = 0 from rfl, unscopedSems0_eq, ownSems_eq]
  isplitl [Hs Hz Hb]
  · isplitl [Hs]; · iexact Hs
    isplitl [Hz]; · iexact Hz
    iexact Hb
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 65536 in
/-- The body's obligation. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from bigSep_W0,
    show ∀ Φ : Fin cfg0.W → sProp 𝕄, bigSep Finset.univ Φ = iprop(Φ (0 : Fin 4) ∗ Φ (1 : Fin 4) ∗ Φ (2 : Fin 4) ∗ Φ (3 : Fin 4)) from bigSep_W0]
  simp only [owns_staging]
  have h := sound_body m ρ c
  rw [← body_eq] at h
  exact h

/-! ## The side conditions -/

/-- Every window's array is held whole. -/
theorem share_eq (c : Dev nD) (w : Fin cfg0.W) : (dats m ρ 0 c).share w = fullShare := by unfold Dat.share; split <;> rfl

/-- What a device has at launch makes the start of its run. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, Hc, -, HG⟩
  ihave Hc := (creds (F := F) c) $$ Hc
  imodintro
  unfold start
  isplitl
  · isplitl [HG]; · iexact HG
    isplitl [Hc]; · iexact Hc
    iexact HL
  · iempintro

/-- The start and the kernel's scratch buffers make the state before the body. -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The state after the body gives back the semaphores, all at zero, and the scratch buffers. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz, Hb⟩
  isplitl [Hb]; · iexact Hb
  isplitl [Hz]; · iexact Hz
  iexact Hr

/-- Everything a device owes at launch is above the lowest level. -/
theorem above_O₀ (c : Dev nD) : Above 0 (O₀ c) := by
  have b : ∀ d, Above 0 (oB c d) := fun d => Above.tally _ _ _ (by decide)
  unfold O₀
  exact ((((above_OT c).mono (by decide)).add (b 2)).add (b 1)).add (b 0)

/-- The waits of the staging are allowed, before and after the body. -/
theorem waits (c : Dev nD) : (levAts L lv : sProp 𝕄) ⊢ Pipeline.cellsWaits cfgs (dats m ρ) () 0 c :=
  Pipeline.cellsWaits_intro cfgs (dats m ρ) () 0 c fun w s t => by
    refine mayWait c _ _ ?_
    rw [show lv ((c : Thread nD τ), SemLoc.dma ((cfg0.win w).sem s)) () = 0 by fin_cases w <;> fin_cases s <;> rfl]
    rcases t with ⟨_ | _, ht⟩
    · exact above_O₀ c
    · exact Above.zero 0

/-! ## The run -/

def finalA (c : Dev nD) (w : Fin cfg0.W) : Buf (Elt F) ((cfg0.win w).arr.view.loc (c : Thread nD τ)) := (dats m ρ 0 c).arrAt w cfg0.N

/-- Every window's array ends at what the data say. -/
def ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters every weakly fair execution of the eight devices ends, with the arrays as the data say
    and every counter at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-! ## What the arrays end at -/

/-- The summand is at the end what it was at the start. -/
theorem finalA_0 (c : Dev nD) : finalA m ρ c (0 : Fin 4) = (s₀ m ρ).mem (win0_0.arr.view.loc (c : Thread nD τ)) :=
  (dats (F := F) m ρ 0 c).arrAt_in (0 : Fin 4) rfl _
/-- The residual is at the end what it was at the start. -/
theorem finalA_1 (c : Dev nD) : finalA m ρ c (1 : Fin 4) = (s₀ m ρ).mem (win0_1.arr.view.loc (c : Thread nD τ)) :=
  (dats (F := F) m ρ 0 c).arrAt_in (1 : Fin 4) rfl _
/-- The scale is at the end what it was at the start. -/
theorem finalA_2 (c : Dev nD) : finalA m ρ c (2 : Fin 4) = (s₀ m ρ).mem (win0_2.arr.view.loc (c : Thread nD τ)) :=
  (dats (F := F) m ρ 0 c).arrAt_in (2 : Fin 4) rfl _

/-- The frame, and the result array. -/
theorem run_ends : θ_run defs (onTc (τ := τ) (main (F := F))) (s₀ m ρ) (fun r => (∀ c : Dev nD,
      r.2.mem ((c : Thread nD τ).loc main_v1) = finalA m ρ c (3 : Fin 4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  θ_run_mono (run_main m ρ) (fun r h => ⟨fun c => ⟨h.1 c (3 : Fin 4), (h.1 c (0 : Fin 4)).trans (finalA_0 m ρ c), (h.1 c (1 : Fin 4)).trans (finalA_1 m ρ c),
    (h.1 c (2 : Fin 4)).trans (finalA_2 m ρ c)⟩, h.2⟩)

end Cert.KernelIdeal.Hand
-- ==== Proof.KIValue.lean ====
/-
# The value

The normalised rows as a plain function of the operands, the kernel's chunks and the reference's term read at an index.
-/
module

public import proofs.«01_k».proof.Proof.KIRun
public import proofs.«01_k».proof.Proof.Gen.ReferenceIdeal.Run
public import Idealize.ShloMosaic.Lib.Pointwise
public import Idealize.ShloMosaic.Lib.IdealHost
public import Idealize.ShloMosaic.Lib.Layout

@[expose] public section

noncomputable section

namespace Cert.KernelIdeal.Hand

open Cert.KernelIdeal Cert.KernelIdeal.Gen
open Idealize.ShloMosaic Idealize.ShloMosaic.TcCoe

/-- The mean of the squares of a row, and the small constant. -/
def spread (y : Fin 1024 → EReal) : EReal :=
  Ideal.div (∑ k, y k * y k) (Ideal.ofBits .f32 0x44800000#32) + Ideal.ofBits .f32 0x358637BD#32

/-- The kernel's divisor is 1024. -/
theorem ofBits_1024 : Ideal.ofBits .f32 0x44800000#32 = ((1024 : ℝ) : EReal) := by
  simp [Ideal.ofBits, Ideal.ieee, -EReal.coe_mul]; norm_num

/-- The small constant is positive. -/
theorem ofBits_small : 0 < Ideal.ofBits .f32 0x358637BD#32 := by
  simp [Ideal.ofBits, Ideal.ieee, -EReal.coe_mul]

/-- A square is not negative, at the infinities too. -/
theorem sq_nonneg_ext (x : EReal) : 0 ≤ x * x := by
  induction x with
  | bot => simp
  | top => simp
  | coe r => rw [← EReal.coe_mul]; exact_mod_cast mul_self_nonneg r

/-- A row's spread is positive, whatever the row. -/
theorem spread_pos (y : Fin 1024 → EReal) : 0 < spread y := by
  have h : 0 ≤ Ideal.div (∑ k, y k * y k) (Ideal.ofBits .f32 0x44800000#32) := by
    rw [ofBits_1024]
    unfold Ideal.div
    rw [if_neg (by exact_mod_cast (by norm_num : (1024 : ℝ) ≠ 0)), ← EReal.coe_inv]
    exact mul_nonneg (Finset.sum_nonneg fun k _ => sq_nonneg_ext (y k)) (by exact_mod_cast (by norm_num : (0 : ℝ) ≤ 1024⁻¹))
  exact lt_of_lt_of_le ofBits_small (le_add_of_nonneg_left h)

/-- To multiply by the reciprocal root of a positive number is to divide by its root, at infinity too. -/
theorem mul_rsqrt (x s : EReal) (h : 0 < s) : x * Ideal.rsqrt s = Ideal.div x (Ideal.sqrt s) := by
  induction s with
  | bot => exact absurd h (by simp)
  | top => simp [Ideal.div]
  | coe r =>
    have hr : 0 < r := by exact_mod_cast h
    have hs : Real.sqrt r ≠ 0 := (Real.sqrt_pos.mpr hr).ne'
    have hq : Ideal.sqrt (r : EReal) = ((Real.sqrt r : ℝ) : EReal) := by rw [Ideal.sqrt_coe, if_neg (not_lt.mpr hr.le)]
    have hi : Ideal.rsqrt (r : EReal) = (((Real.sqrt r)⁻¹ : ℝ) : EReal) := by
      rw [Ideal.rsqrt_coe, if_neg (not_lt.mpr hr.le), if_neg hr.ne']
    rw [hq, hi, Ideal.div, if_neg (by exact_mod_cast hs), EReal.coe_inv]

/-- A chunk's element: the row's sum of the three operands, times the reciprocal root of its spread, times the scale. -/
theorem chunk_at (vp : Vec Ideal S1x32x1024 .f32) (vc vr : Vec Ideal S32x1024 .f32) (vg : Vec Ideal S1024 .f32) (a : Fin 32) (l : Fin 1024) :
    chunkPay (F := Ideal) vp vc vr vg (ix2 a l)
      = (vp (ix3 0 a l) + vc (ix2 a l) + vr (ix2 a l))
          * Ideal.rsqrt (spread fun k => vp (ix3 0 a k) + vc (ix2 a k) + vr (ix2 a k)) * vg (ix1 l) := by
  pointwise [chunkPay, k0_pay3, k0_pay1, k0_pay2, spread]

/-! ## What the chunks are read from -/

section reads

variable {F : FTy → Type} [FloatOps F]
variable (m : (ℓ : Loc nD τ sig) → Buf (Elt F) ℓ) (ρ : Dev nD → PrngReg)

/-- Row `a` of chunk `i` of block `k`. -/
def rowAt (k : Fin 4) (i : Fin 8) (a : Fin 32) : Fin 1024 := ⟨256 * k.val + 32 * i.val + a.val, by omega⟩

/-- Where the loads of chunk `i` begin in the device's summand. -/
theorem off2_row : ∀ (c : Dev nD) (i : Fin 8), k0_off2 c (BitVec.ofNat 32 (32 * i.val)) = ![0, 256 * (bk c).val + 32 * i.val, 0] := by decide +kernel

omit [FloatOps F] in
/-- The staged summand is the first argument. -/
theorem pstg_eq (c : Dev nD) : pstg m ρ c = m ((c : Thread nD τ).loc main_arg0) :=
  Memref.read_access_unit_zero (Elt F) main_arg0 (funext fun a => by fin_cases a <;> decide) _ _
omit [FloatOps F] in
/-- The staged residual is the second argument. -/
theorem rstg_eq (c : Dev nD) : rstg m ρ c = m ((c : Thread nD τ).loc main_arg1) :=
  Memref.read_access_unit_zero (Elt F) main_arg1 (funext fun a => by fin_cases a <;> decide) _ _
omit [FloatOps F] in
/-- The staged scale is the third argument. -/
theorem gstg_eq (c : Dev nD) : gstg m ρ c = m ((c : Thread nD τ).loc main_arg2) :=
  Memref.read_access_unit_zero (Elt F) main_arg2 (funext fun a => by fin_cases a; decide) _ _

/-- A chunk without its unit axis. -/
theorem dropped_at {α : Type} (v : S1x32x1024.Idx → α) (a : Fin 32) (l : Fin 1024) :
    shapeCast S32x1024 v shapeCasts_S1x32x1024_S32x1024 (ix2 a l) = v (ix3 0 a l) := by
  pointwise

omit [FloatOps F] in
/-- Rows of the summand loaded at the offset of a chunk. -/
theorem rows_read {off : Fin 3 → ℕ} (inb : ∀ x, off x + S1x32x1024.size x ≤ S1x1024x1024.size x) (f : S1x1024x1024.Idx → Elt F .f32) (k : Fin 4)
    (i : Fin 8) (h : off = ![0, 256 * k.val + 32 * i.val, 0]) (a : Fin 32) (l : Fin 1024) :
    pM.view.readAt (Elt F) (Rect.unit (s := S1x1024x1024) off S1x32x1024.size inb).toLoadRect f (ix3 0 a l) = f (ix3 0 (rowAt k i a) l) := by
  subst h
  refine congrArg f (funext fun x => Fin.ext ?_)
  fin_cases x
  · rfl
  · show 256 * k.val + 32 * i.val + 1 * a.val = 256 * k.val + 32 * i.val + a.val; omega
  · show 0 + 1 * l.val = l.val; omega

omit [FloatOps F] in
/-- The chunk loaded of the device's own summand. -/
theorem own_read (c : Dev nD) (i : Fin 8) (a : Fin 32) (l : Fin 1024) :
    pM.view.readAt (Elt F) (pR c i).toLoadRect (pstg m ρ c) (ix3 0 a l) = m ((c : Thread nD τ).loc main_arg0) (ix3 0 (rowAt (bk c) i a) l) := by
  rw [pstg_eq]
  exact rows_read _ _ (bk c) i (off2_row c i) a l

omit [FloatOps F] in
/-- The chunk sent of a device's summand. -/
theorem sent_read (c : Dev nD) (i : Fin 8) (a : Fin 32) (l : Fin 1024) :
    xRows m ρ c i (ix2 a l) = m ((c : Thread nD τ).loc main_arg0) (ix3 0 (rowAt (bk c) i a) l) := by
  unfold xRows
  rw [pstg_eq]
  refine Eq.trans ?_ (rows_read (k0_off1_inb c i) (m ((c : Thread nD τ).loc main_arg0)) (bk c) i (off1_row c i) a l)
  refine (congrFun (Memref.read_squeeze_slice pM _ (fun _ => rfl) squeezes_S1x32x1024_S32x1024 shapeCasts_S1x32x1024_S32x1024 _) (ix2 a l)).trans ?_
  exact dropped_at _ a l

omit [FloatOps F] in
/-- The chunk loaded of the residual. -/
theorem res_read (c : Dev nD) (i : Fin 8) (a : Fin 32) (l : Fin 1024) :
    rM.view.readAt (Elt F) (rR c i).toLoadRect (rstg m ρ c) (ix2 a l) = m ((c : Thread nD τ).loc main_arg1) (ix2 (rowAt (bk c) i a) l) := by
  rw [rstg_eq]
  refine congrArg (m ((c : Thread nD τ).loc main_arg1)) (funext fun x => Fin.ext ?_)
  show k0_off3 c (BitVec.ofNat 32 (32 * i.val)) x + 1 * (ix2 a l x).val = (ix2 (rowAt (bk c) i a) l x).val
  rw [off3_row]
  fin_cases x
  · show 256 * (bk c).val + 32 * i.val + 1 * a.val = 256 * (bk c).val + 32 * i.val + a.val; omega
  · show 0 + 1 * l.val = l.val; omega

omit [FloatOps F] in
/-- Loading the whole scale gives the third argument. -/
theorem scale_read (c : Dev nD) : gM.view.readAt (Elt F) gR.toLoadRect (gstg m ρ c) = m ((c : Thread nD τ).loc main_arg2) := by
  rw [gstg_eq]
  exact Memref.readAt_unit_zero (Elt F) cc0_stg2_0 (funext fun a => by fin_cases a; rfl) _ _

end reads

/-! ## The kernel's result at an index -/

section value

variable (m : (ℓ : Loc nD τ sig) → Buf (Elt Ideal) ℓ) (ρ : Dev nD → PrngReg)

/-- The half of the summands a device has. -/
def half (c : Dev nD) : Fin 2 := ⟨c.val / 4, by have h : c.val < 8 := c.isLt; omega⟩

/-- A device and its neighbour along `x` have the two halves between them. -/
theorem half_add (f : Fin 2 → EReal) (c : Dev nD) : f (half c) + f (half (xn c)) = f 0 + f 1 := by
  have h : (half c = 0 ∧ half (xn c) = 1) ∨ (half c = 1 ∧ half (xn c) = 0) := by revert c; decide
  rcases h with ⟨h, h'⟩ | ⟨h, h'⟩ <;> rw [h, h']
  exact add_comm _ _

variable (P : (⟨3, ![2, 1024, 1024]⟩ : Shape).Idx → EReal) (R : S1024x1024.Idx → EReal) (g : S1024.Idx → EReal)

/-- Every device has its half of the summands, the residual and the scale. -/
structure Holds : Prop where
  summand : ∀ (c : Dev nD) (r l : Fin 1024), m ((c : Thread nD τ).loc main_arg0) (ix3 0 r l) = P (ix3 (half c) r l)
  residual : ∀ c : Dev nD, m ((c : Thread nD τ).loc main_arg1) = R
  scale : ∀ c : Dev nD, m ((c : Thread nD τ).loc main_arg2) = g

variable {m P R g}

/-- An element of a chunk, as the whole operands give it. -/
theorem V_at (hm : Holds m P R g) (c : Dev nD) (i : Fin 8) (a : Fin 32) (l : Fin 1024) :
    V m ρ c i (ix2 a l)
      = Ideal.div (P (ix3 0 (rowAt (bk c) i a) l) + P (ix3 1 (rowAt (bk c) i a) l) + R (ix2 (rowAt (bk c) i a) l))
          (Ideal.sqrt (spread fun k => P (ix3 0 (rowAt (bk c) i a) k) + P (ix3 1 (rowAt (bk c) i a) k) + R (ix2 (rowAt (bk c) i a) k))) * g (ix1 l) := by
  have hy : ∀ k : Fin 1024, pM.view.readAt (Elt Ideal) (pR c i).toLoadRect (pstg m ρ c) (ix3 0 a k) + xRows m ρ (xn c) i (ix2 a k)
        + rM.view.readAt (Elt Ideal) (rR c i).toLoadRect (rstg m ρ c) (ix2 a k)
      = (P (ix3 0 (rowAt (bk c) i a) k) + P (ix3 1 (rowAt (bk c) i a) k) + R (ix2 (rowAt (bk c) i a) k) : EReal) := by
    intro k
    rw [own_read, sent_read, res_read, bk_xn, hm.summand, hm.summand, hm.residual]
    exact congrArg (· + R (ix2 (rowAt (bk c) i a) k)) (half_add (fun h => P (ix3 h (rowAt (bk c) i a) k)) c)
  unfold V
  rw [chunk_at, scale_read, hm.scale, hy l, funext hy, mul_rsqrt _ _ (spread_pos _)]

/-- The result array after the run holds what the body left. -/
theorem finalA_3 (c : Dev nD) : finalA m ρ c (3 : Fin 4) = OUT m ρ c := by
  have hw : ∀ f, ((cfg0.win (3 : Fin 4)).blk t0_0).view.read (Elt Ideal) f = f :=
    Memref.read_access_unit_zero (Elt Ideal) main_v1 (funext fun a => by fin_cases a <;> decide) _
  have hG : ∀ t, (cfg0.win (3 : Fin 4)).flush t = true →
      (dats m ρ 0 c).flushed (3 : Fin 4) t = ((cfg0.win (3 : Fin 4)).blk t).view.read (Elt Ideal) (OUT m ρ c) := fun t _ => by
    rw [show t = t0_0 from Fin.ext (by have h : t.val < 1 := t.isLt; show t.val = 0; omega)]
    exact (hw (OUT m ρ c)).symm
  have h := (dats m ρ 0 c).read_blk_arrAt (3 : Fin 4) (OUT m ρ c) hG t0_0 (flush0_3 t0_0)
  exact (hw _).symm.trans (h.trans (hw _))

end value

end Cert.KernelIdeal.Hand

namespace Cert.ReferenceIdeal.Hand

open Cert.ReferenceIdeal Cert.ReferenceIdeal.Gen
open Idealize.ShloMosaic Idealize.ShloMosaic.TcCoe
open Cert.KernelIdeal.Hand (spread)

/-- The reference's sum of the summands and the residual. -/
abbrev refSum (P : Vec Ideal S2x1024x1024 .f32) (R : Vec Ideal S1024x1024 .f32) : FVec Ideal S1024x1024 .f32 :=
  addf (Host.reduceAdd P (constant S_ .f32 0x00000000#32) reducesTo_S2x1024x1024_S1024x1024_d0 h_S_) R

/-- The reference's result. -/
abbrev refOut (P : Vec Ideal S2x1024x1024 .f32) (R : Vec Ideal S1024x1024 .f32) (g : Vec Ideal S1024 .f32) : FVec Ideal S1024x1024 .f32 :=
  mulf (Host.divf (refSum P R) (broadcastInDim S1024x1024 ![0, 1] bcast_S1024x1_S1024x1024_0_1 (Host.sqrt (addf (Host.divf (broadcastInDim S1024x1 ![0] bcast_S1024_S1024x1_0 (Host.reduceAdd (mulf (refSum P R) (refSum P R)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))

/-- The reference's result at an index. -/
theorem ref_at (P : Vec Ideal S2x1024x1024 .f32) (R : Vec Ideal S1024x1024 .f32) (g : Vec Ideal S1024 .f32) (a l : Fin 1024) :
    refOut P R g (ix2 a l)
      = Ideal.div (P (ix3 0 a l) + P (ix3 1 a l) + R (ix2 a l))
          (Ideal.sqrt (spread fun k => P (ix3 0 a k) + P (ix3 1 a k) + R (ix2 a k))) * g (ix1 l) := by
  pointwise [refOut, refSum, spread]
  simp only [Fin.sum_univ_two]

end Cert.ReferenceIdeal.Hand

namespace Cert.KernelIdeal.Hand

open Cert.KernelIdeal Cert.KernelIdeal.Gen
open Idealize.ShloMosaic Idealize.ShloMosaic.TcCoe
open Cert.ReferenceIdeal.Hand (refOut ref_at)

/-- On every device the kernel's result is the reference's. -/
theorem out_ref {m : (ℓ : Loc nD τ sig) → Buf (Elt Ideal) ℓ} (ρ : Dev nD → PrngReg) {P : (⟨3, ![2, 1024, 1024]⟩ : Shape).Idx → EReal} {R : S1024x1024.Idx → EReal}
    {g : S1024.Idx → EReal} (hm : Holds m P R g) (c : Dev nD) : OUT m ρ c = refOut P R g := by
  funext x
  have h0 : (x (0 : Fin 2)).val < 1024 := (x (0 : Fin 2)).isLt
  obtain ⟨r, l, rfl⟩ : ∃ r l : Fin 1024, x = ix2 r l := ⟨x 0, x 1, funext fun a => by fin_cases a <;> rfl⟩
  have hr : r.val < 1024 := r.isLt
  rw [ref_at]
  have hb : bk (own c ⟨r.val / 256, by omega⟩) = ⟨r.val / 256, by omega⟩ := Fin.ext (by
    show (4 * (c.val / 4) + r.val / 256) % 4 = r.val / 256; omega)
  have hrow : rowAt (bk (own c ⟨r.val / 256, by omega⟩)) ⟨r.val % 256 / 32, by omega⟩ ⟨r.val % 32, by omega⟩ = r := by
    rw [hb]
    refine Fin.ext ?_
    show 256 * (r.val / 256) + 32 * (r.val % 256 / 32) + r.val % 32 = r.val
    omega
  have hv := V_at ρ hm (own c ⟨r.val / 256, by omega⟩) ⟨r.val % 256 / 32, by omega⟩ ⟨r.val % 32, by omega⟩ l
  rw [hrow] at hv
  refine Eq.trans ?_ hv
  unfold OUT
  refine congrArg (V m ρ _ _) (funext fun a => ?_)
  fin_cases a <;> rfl

end Cert.KernelIdeal.Hand
-- ==== Proof.lean ====
/-
# The claims

The frames of the kernel, of the kernel over the extended reals and of the reference, and the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KRun
public import proofs.«01_k».proof.Proof.KIRun
public import proofs.«01_k».proof.Proof.KIValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel ends with its arguments as they were and every counter at zero. -/
theorem kernel_frame : Cert.quiescent_Kernel (hKernel := Cert.Kernel.Gen.facts) := fun m g _ =>
  θ_run_mono (Cert.Kernel.Hand.run_ends (F := Bits) m g) fun _ h => ⟨fun c => (h.1 c).2, h.2⟩

/-- So does the kernel over the extended reals. -/
theorem ideal_frame : Cert.quiescent_KernelIdeal (hKernelIdeal := Cert.KernelIdeal.Gen.facts) := fun m g _ =>
  θ_run_mono (Cert.KernelIdeal.Hand.run_ends (F := Ideal) m g) fun _ h => ⟨fun c => (h.1 c).2, h.2⟩

/-- So does the reference, which has no counters. -/
theorem reference_frame : Cert.quiescent_ReferenceIdeal (hReferenceIdeal := Cert.ReferenceIdeal.Gen.facts) := fun m g _ =>
  θ_run_mono (Cert.ReferenceIdeal.Value.run (F := Ideal) m g) fun r h => ⟨fun c => (h c).2, sem_eq_zero_of_no_sems (by decide) r.2⟩

/-- An element of the half of the summands a device has, in the whole. -/
theorem block_at (c : Dev Cert.KernelIdeal.nD) (P : (⟨3, ![2, 1024, 1024]⟩ : Shape).Idx → EReal) (r l : Fin 1024) :
    (Layout.blockN ⟨3, ![1, 1024, 1024]⟩ ⟨3, ![2, 1024, 1024]⟩ (Layout.meshBlock [2, 2, 2] ![[0], [], []] c) P) (ix3 0 r l)
      = P (ix3 (Cert.KernelIdeal.Hand.half c) r l) := by
  have h : ∀ c : Dev Cert.KernelIdeal.nD, Layout.meshLin [2, 2, 2] c.val [0] = c.val / 4 := by decide
  rw [Layout.blockN_apply]
  refine congrArg P (funext fun x => Fin.ext ?_)
  fin_cases x
  · show Layout.meshLin [2, 2, 2] c.val [0] * 1 + 0 = c.val / 4
    rw [h]; omega
  · show Layout.meshLin [2, 2, 2] c.val [] * 1024 + r.val = r.val
    show 0 * 1024 + r.val = r.val
    omega
  · show Layout.meshLin [2, 2, 2] c.val [] * 1024 + l.val = l.val
    show 0 * 1024 + l.val = l.val
    omega

/-- Over the extended reals the kernel leaves on every device what the reference computes of the whole arrays. -/
theorem same_result : Cert.algebraic_KernelIdeal_ReferenceIdeal (hKernelIdeal := Cert.KernelIdeal.Gen.facts)
    (hReferenceIdeal := Cert.ReferenceIdeal.Gen.facts) := by
  intro m g m' g' _ hm
  have holds : Cert.KernelIdeal.Hand.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c r l => (congrFun (hm c).1 (ix3 0 r l)).trans (block_at c _ r l), fun c => (hm c).2.1, fun c => (hm c).2.2⟩
  refine ⟨_, θ_run_mono (Cert.KernelIdeal.Hand.run_ends (F := Ideal) m g) fun r h c => ⟨?_, (h.1 c).2⟩,
    θ_run_mono (Cert.ReferenceIdeal.Value.run (F := Ideal) m' g') fun r h => h 0⟩
  exact ((h.1 c).1.trans (Cert.KernelIdeal.Hand.finalA_3 g c)).trans (Cert.KernelIdeal.Hand.out_ref g holds c)

/-- All the claims together. -/
theorem claim : Cert.Claim :=
  ⟨Cert.Kernel.Gen.facts, Cert.KernelIdeal.Gen.facts, Cert.ReferenceIdeal.Gen.facts, kernel_frame, ideal_frame, reference_frame, trivial, same_result⟩

end Cert.Proof

end
